-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_never_stopped [hPre_never_stopped : Cert.Pre_never_stopped.Facts] (m : (ℓ : Loc Cert.KernelIdeal.nD Cert.KernelIdeal.τ Cert.KernelIdeal.sig) → Buf (Elt Ideal) ℓ) : Prop :=
  ∀ c : Dev Cert.KernelIdeal.nD,
    (Cert.Pre_never_stopped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_never_stopped [hPre_never_stopped : Cert.Pre_never_stopped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_never_stopped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_never_stopped [hKernelIdeal : Cert.KernelIdeal.Facts] [hPre_never_stopped : Cert.Pre_never_stopped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_never_stopped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_never_stopped [hReferenceIdeal : Cert.ReferenceIdeal.Facts] [hPre_never_stopped : Cert.Pre_never_stopped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_never_stopped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_never_stopped [hKernelIdeal : Cert.KernelIdeal.Facts] [hReferenceIdeal : Cert.ReferenceIdeal.Facts] [hPre_never_stopped : Cert.Pre_never_stopped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_never_stopped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_never_stopped : Cert.Pre_never_stopped.Facts),
    quiescent_Kernel (hKernel := hKernel)
    ∧ quiescent_KernelIdeal (hKernelIdeal := hKernelIdeal)
    ∧ quiescent_KernelIdeal_pre_never_stopped (hKernelIdeal := hKernelIdeal) (hPre_never_stopped := hPre_never_stopped)
    ∧ quiescent_ReferenceIdeal (hReferenceIdeal := hReferenceIdeal)
    ∧ quiescent_ReferenceIdeal_pre_never_stopped (hReferenceIdeal := hReferenceIdeal) (hPre_never_stopped := hPre_never_stopped)
    ∧ preserves_Kernel_KernelIdeal
    ∧ algebraic_KernelIdeal_ReferenceIdeal_pre_never_stopped (hKernelIdeal := hKernelIdeal) (hReferenceIdeal := hReferenceIdeal) (hPre_never_stopped := hPre_never_stopped)
-- ==== Pre_never_stopped.lean ====
abbrev S262144x4 : Shape := ⟨2, ![262144, 4]⟩
abbrev S2x64 : Shape := ⟨2, ![2, 64]⟩
abbrev S64 : Shape := ⟨1, ![64]⟩
abbrev S64x1 : Shape := ⟨2, ![64, 1]⟩
abbrev S1 : Shape := ⟨1, ![1]⟩
abbrev S262144x1 : Shape := ⟨2, ![262144, 1]⟩
abbrev S262144 : Shape := ⟨1, ![262144]⟩
abbrev S_ : Shape := ⟨0, ![]⟩

class Facts : Prop where
  slices_S262144x4_S262144x1_0_0 : S262144x4.Slices ![0, 0] S262144x1
  shapeCasts_S262144x1_S262144 : S262144x1.ShapeCasts S262144
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : FVec F S262144x4 .f32) (main_arg1 : FVec F S2x64 .f32) (main_arg2 : FVec F S64 .f32) (main_arg3 : FVec F S64x1 .f32) (main_arg4 : FVec F S1 .f32) : IVec S_ 1 :=
  let main_v0 : FVec F S262144x1 .f32 := (extractStridedSlice S262144x1 ![0, 0] · slices_S262144x4_S262144x1_0_0) main_arg0
  let main_v1 : FVec F S262144 .f32 := shapeCast S262144 main_v0 shapeCasts_S262144x1_S262144
  let main_cst : FVec F S_ .f32 := constant S_ .f32 0x3F800000#32
  let main_v2 : FVec F S262144 .f32 := broadcastInDim S262144 ![] bcast_S_S262144 main_cst
  let main_v3 : IVec S262144 1 := cmpf .olt main_v1 main_v2
  let main_c : IVec S_ 1 := constantI S_ 1 1#1
  let main_v4 : IVec S_ 1 := (fun x v => Host.reduce IntOp.andi x v reducesTo_S262144_S_d0 h_S_) main_v3 main_c
  main_v4
-- ==== Kernel.lean ====
abbrev S262144x4 : Shape := ⟨2, ![262144, 4]⟩
abbrev S2x64 : Shape := ⟨2, ![2, 64]⟩
abbrev S64 : Shape := ⟨1, ![64]⟩
abbrev S64x1 : Shape := ⟨2, ![64, 1]⟩
abbrev S1 : Shape := ⟨1, ![1]⟩
abbrev S262144x1 : Shape := ⟨2, ![262144, 1]⟩
abbrev S262144 : Shape := ⟨1, ![262144]⟩
abbrev S2048x128 : Shape := ⟨2, ![2048, 128]⟩
abbrev S1x64 : Shape := ⟨2, ![1, 64]⟩
abbrev S_ : Shape := ⟨0, ![]⟩
abbrev S40x2048x128 : Shape := ⟨3, ![40, 2048, 128]⟩
abbrev S40x262144 : Shape := ⟨2, ![40, 262144]⟩
abbrev S64x128 : Shape := ⟨2, ![64, 128]⟩
abbrev S40x64x128 : Shape := ⟨3, ![40, 64, 128]⟩
abbrev S1x64x128 : Shape := ⟨3, ![1, 64, 128]⟩

abbrev nBuf : Space → Nat
  | .hbm => 27
  | .vmem => 8
  | .smem => 5
  | _ => 0

abbrev bufTy : (tb : Table) → Fin (tcTables nBuf tb) → BufTy
  | .hbm, ⟨0, _⟩ => ⟨S262144x4, .f32⟩
  | .hbm, ⟨1, _⟩ => ⟨S2x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S262144x1, .f32⟩
  | .hbm, ⟨6, _⟩ => ⟨S262144, .f32⟩
  | .hbm, ⟨7, _⟩ => ⟨S2048x128, .f32⟩
  | .hbm, ⟨8, _⟩ => ⟨S262144x1, .f32⟩
  | .hbm, ⟨9, _⟩ => ⟨S262144, .f32⟩
  | .hbm, ⟨10, _⟩ => ⟨S2048x128, .f32⟩
  | .hbm, ⟨11, _⟩ => ⟨S262144x1, .f32⟩
  | .hbm, ⟨12, _⟩ => ⟨S262144, .f32⟩
  | .hbm, ⟨13, _⟩ => ⟨S2048x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S40x2048x128, .f32⟩
  | .hbm, ⟨26, _⟩ => ⟨S40x262144, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S40x64x128, .f32⟩
  | .local _ .vmem, ⟨7, _⟩ => ⟨S40x64x128, .f32⟩
  | .local _ .smem, ⟨0, _⟩ => ⟨S64, .f32⟩
  | .local _ .smem, ⟨1, _⟩ => ⟨S64, .f32⟩
  | .local _ .smem, ⟨2, _⟩ => ⟨S64, .f32⟩
  | .local _ .smem, ⟨3, _⟩ => ⟨S64, .f32⟩
  | .local _ .smem, ⟨4, _⟩ => ⟨S1, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_cst : Ref sig .tc := ⟨.hbm, 19, rfl⟩
abbrev main_call0_v14 : Ref sig .tc := ⟨.hbm, 20, rfl⟩
abbrev main_call0_v15 : Ref sig .tc := ⟨.hbm, 21, rfl⟩
abbrev main_call0_cst_0 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_v0 : Ref sig .tc := ⟨.hbm, 26, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c40_i32 : BitVec 32 := 40#32
  let v519 : BitVec 32 := Scalar.addi c0_i32 c40_i32
  let c1_i32 : BitVec 32 := 1#32
  ⟨c0_i32, v519, c1_i32⟩
def k0_off1 (k0_t1 : Fin k0_t1_loop.trips) : Fin 3 → Nat :=
  let c0_i32 : BitVec 32 := 0#32
  let c1_i32 : BitVec 32 := 1#32
  let arg10 : BitVec 32 := Scf.iv c0_i32 c1_i32 k0_t1
  let v1063 : Index := Scalar.indexCast arg10
  let c0_274 : Index := 0#32
  let c0_275 : Index := 0#32
  ![v1063.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S40x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S262144x4 : Shape := ⟨2, ![262144, 4]⟩
abbrev S2x64 : Shape := ⟨2, ![2, 64]⟩
abbrev S64 : Shape := ⟨1, ![64]⟩
abbrev S64x1 : Shape := ⟨2, ![64, 1]⟩
abbrev S1 : Shape := ⟨1, ![1]⟩
abbrev S_ : Shape := ⟨0, ![]⟩
abbrev S40x262144 : Shape := ⟨2, ![40, 262144]⟩
abbrev S262144x1 : Shape := ⟨2, ![262144, 1]⟩
abbrev S262144 : Shape := ⟨1, ![262144]⟩
abbrev S262144x2 : Shape := ⟨2, ![262144, 2]⟩
abbrev S262144x64 : Shape := ⟨2, ![262144, 64]⟩
abbrev S1x64 : Shape := ⟨2, ![1, 64]⟩
abbrev S1x1 : Shape := ⟨2, ![1, 1]⟩
abbrev S1x262144 : Shape := ⟨2, ![1, 262144]⟩

abbrev nBuf : Space → Nat
  | .hbm => 100
  | .vmem => 0
  | .smem => 0
  | _ => 0

abbrev bufTy : (tb : Table) → Fin (tcTables nBuf tb) → BufTy
  | .hbm, ⟨0, _⟩ => ⟨S262144x4, .f32⟩
  | .hbm, ⟨1, _⟩ => ⟨S2x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S_, .f32⟩
  | .hbm, ⟨6, _⟩ => ⟨S40x262144, .f32⟩
  | .hbm, ⟨7, _⟩ => ⟨S_, .i32⟩
  | .hbm, ⟨8, _⟩ => ⟨S2x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S_, .i32⟩
  | .hbm, ⟨13, _⟩ => ⟨S262144x4, .f32⟩
  | .hbm, ⟨14, _⟩ => ⟨S40x262144, .f32⟩
  | .hbm, ⟨15, _⟩ => ⟨S_, .i32⟩
  | .hbm, ⟨16, _⟩ => ⟨S_, .i1⟩
  | .hbm, ⟨17, _⟩ => ⟨S262144x1, .f32⟩
  | .hbm, ⟨18, _⟩ => ⟨S262144, .f32⟩
  | .hbm, ⟨19, _⟩ => ⟨S262144x1, .f32⟩
  | .hbm, ⟨20, _⟩ => ⟨S262144, .f32⟩
  | .hbm, ⟨21, _⟩ => ⟨S262144x1, .f32⟩
  | .hbm, ⟨22, _⟩ => ⟨S262144, .f32⟩
  | .hbm, ⟨23, _⟩ => ⟨S262144x1, .f32⟩
  | .hbm, ⟨24, _⟩ => ⟨S262144, .f32⟩
  | .hbm, ⟨25, _⟩ => ⟨S_, .f32⟩
  | .hbm, ⟨26, _⟩ => ⟨S262144, .f32⟩
  | .hbm, ⟨27, _⟩ => ⟨S262144, .i1⟩
  | .hbm, ⟨28, _⟩ => ⟨S262144x1, .f32⟩
  | .hbm, ⟨29, _⟩ => ⟨S262144x1, .f32⟩
  | .hbm, ⟨30, _⟩ => ⟨S262144x2, .f32⟩
  | .hbm, ⟨31, _⟩ => ⟨S262144x64, .f32⟩
  | .hbm, ⟨32, _⟩ => ⟨S1x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S262144x1, .f32⟩
  | .hbm, ⟨39, _⟩ => ⟨S1x1, .f32⟩
  | .hbm, ⟨40, _⟩ => ⟨S262144x1, .f32⟩
  | .hbm, ⟨41, _⟩ => ⟨S262144x1, .f32⟩
  | .hbm, ⟨42, _⟩ => ⟨S262144x1, .f32⟩
  | .hbm, ⟨43, _⟩ => ⟨S262144x1, .f32⟩
  | .hbm, ⟨44, _⟩ => ⟨S_, .f32⟩
  | .hbm, ⟨45, _⟩ => ⟨S262144x1, .f32⟩
  | .hbm, ⟨46, _⟩ => ⟨S262144x1, .f32⟩
  | .hbm, ⟨47, _⟩ => ⟨S_, .f32⟩
  | .hbm, ⟨48, _⟩ => ⟨S262144x1, .f32⟩
  | .hbm, ⟨49, _⟩ => ⟨S262144x1, .f32⟩
  | .hbm, ⟨50, _⟩ => ⟨S262144, .f32⟩
  | .hbm, ⟨51, _⟩ => ⟨S_, .f32⟩
  | .hbm, ⟨52, _⟩ => ⟨S262144, .f32⟩
  | .hbm, ⟨53, _⟩ => ⟨S262144, .f32⟩
  | .hbm, ⟨54, _⟩ => ⟨S_, .f32⟩
  | .hbm, ⟨55, _⟩ => ⟨S262144, .f32⟩
  | .hbm, ⟨56, _⟩ => ⟨S262144, .f32⟩
  | .hbm, ⟨57, _⟩ => ⟨S_, .f32⟩
  | .hbm, ⟨58, _⟩ => ⟨S262144, .f32⟩
  | .hbm, ⟨59, _⟩ => ⟨S262144, .f32⟩
  | .hbm, ⟨60, _⟩ => ⟨S_, .f32⟩
  | .hbm, ⟨61, _⟩ => ⟨S262144, .f32⟩
  | .hbm, ⟨62, _⟩ => ⟨S262144, .i1⟩
  | .hbm, ⟨63, _⟩ => ⟨S262144, .f32⟩
  | .hbm, ⟨64, _⟩ => ⟨S262144, .f32⟩
  | .hbm, ⟨65, _⟩ => ⟨S_, .f32⟩
  | .hbm, ⟨66, _⟩ => ⟨S262144, .f32⟩
  | .hbm, ⟨67, _⟩ => ⟨S262144, .f32⟩
  | .hbm, ⟨68, _⟩ => ⟨S262144, .f32⟩
  | .hbm, ⟨69, _⟩ => ⟨S_, .f32⟩
  | .hbm, ⟨70, _⟩ => ⟨S262144, .f32⟩
  | .hbm, ⟨71, _⟩ => ⟨S262144, .i1⟩
  | .hbm, ⟨72, _⟩ => ⟨S_, .f32⟩
  | .hbm, ⟨73, _⟩ => ⟨S_, .f32⟩
  | .hbm, ⟨74, _⟩ => ⟨S262144, .f32⟩
  | .hbm, ⟨75, _⟩ => ⟨S262144, .f32⟩
  | .hbm, ⟨76, _⟩ => ⟨S_, .f32⟩
  | .hbm, ⟨77, _⟩ => ⟨S262144, .f32⟩
  | .hbm, ⟨78, _⟩ => ⟨S262144, .i1⟩
  | .hbm, ⟨79, _⟩ => ⟨S_, .f32⟩
  | .hbm, ⟨80, _⟩ => ⟨S_, .f32⟩
  | .hbm, ⟨81, _⟩ => ⟨S262144, .f32⟩
  | .hbm, ⟨82, _⟩ => ⟨S262144, .f32⟩
  | .hbm, ⟨83, _⟩ => ⟨S262144, .f32⟩
  | .hbm, ⟨84, _⟩ => ⟨S262144, .f32⟩
  | .hbm, ⟨85, _⟩ => ⟨S262144, .f32⟩
  | .hbm, ⟨86, _⟩ => ⟨S_, .f32⟩
  | .hbm, ⟨87, _⟩ => ⟨S262144, .f32⟩
  | .hbm, ⟨88, _⟩ => ⟨S262144, .f32⟩
  | .hbm, ⟨89, _⟩ => ⟨S262144, .f32⟩
  | .hbm, ⟨90, _⟩ => ⟨S262144x1, .f32⟩
  | .hbm, ⟨91, _⟩ => ⟨S262144x1, .f32⟩
  | .hbm, ⟨92, _⟩ => ⟨S262144x1, .f32⟩
  | .hbm, ⟨93, _⟩ => ⟨S262144x1, .f32⟩
  | .hbm, ⟨94, _⟩ => ⟨S262144x4, .f32⟩
  | .hbm, ⟨95, _⟩ => ⟨S1x262144, .f32⟩
  | .hbm, ⟨96, _⟩ => ⟨S_, .i32⟩
  | .hbm, ⟨97, _⟩ => ⟨S40x262144, .f32⟩
  | .hbm, ⟨98, _⟩ => ⟨S_, .i32⟩
  | .hbm, ⟨99, _⟩ => ⟨S_, .i32⟩
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_while0c_c_6 : Ref sig .tc := ⟨.hbm, 15, rfl⟩
abbrev main_while0c_v2 : Ref sig .tc := ⟨.hbm, 16, rfl⟩
abbrev main_while0b_v2 : Ref sig .tc := ⟨.hbm, 17, rfl⟩
abbrev main_while0b_v3 : Ref sig .tc := ⟨.hbm, 18, rfl⟩
abbrev main_while0b_v4 : Ref sig .tc := ⟨.hbm, 19, rfl⟩
abbrev main_while0b_v5 : Ref sig .tc := ⟨.hbm, 20, rfl⟩
abbrev main_while0b_v6 : Ref sig .tc := ⟨.hbm, 21, rfl⟩
abbrev main_while0b_v7 : Ref sig .tc := ⟨.hbm, 22, rfl⟩
abbrev main_while0b_v8 : Ref sig .tc := ⟨.hbm, 23, rfl⟩
abbrev main_while0b_v9 : Ref sig .tc := ⟨.hbm, 24, rfl⟩
abbrev main_while0b_cst_6 : Ref sig .tc := ⟨.hbm, 25, rfl⟩
abbrev main_while0b_v10 : Ref sig .tc := ⟨.hbm, 26, rfl⟩
abbrev main_while0b_v11 : Ref sig .tc := ⟨.hbm, 27, rfl⟩
abbrev main_while0b_v12 : Ref sig .tc := ⟨.hbm, 28, rfl⟩
abbrev main_while0b_v13 : Ref sig .tc := ⟨.hbm, 29, rfl⟩
abbrev main_while0b_v14 : Ref sig .tc := ⟨.hbm, 30, rfl⟩
abbrev main_while0b_v15 : Ref sig .tc := ⟨.hbm, 31, rfl⟩
abbrev main_while0b_v16 : Ref sig .tc := ⟨.hbm, 32, rfl⟩
abbrev main_while0b_v17 : Ref sig .tc := ⟨.hbm, 33, rfl⟩
abbrev main_while0b_v18 : Ref sig .tc := ⟨.hbm, 34, rfl⟩
abbrev main_while0b_call0_cst : Ref sig .tc := ⟨.hbm, 35, rfl⟩
abbrev main_while0b_call0_v0 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_v25 : Ref sig .tc := ⟨.hbm, 43, rfl⟩
abbrev main_while0b_cst_7 : Ref sig .tc := ⟨.hbm, 44, rfl⟩
abbrev main_while0b_v26 : Ref sig .tc := ⟨.hbm, 45, rfl⟩
abbrev main_while0b_v27 : Ref sig .tc := ⟨.hbm, 46, rfl⟩
abbrev main_while0b_cst_8 : Ref sig .tc := ⟨.hbm, 47, rfl⟩
abbrev main_while0b_v28 : Ref sig .tc := ⟨.hbm, 48, rfl⟩
abbrev main_while0b_v29 : Ref sig .tc := ⟨.hbm, 49, rfl⟩
abbrev main_while0b_v30 : Ref sig .tc := ⟨.hbm, 50, rfl⟩
abbrev main_while0b_cst_9 : Ref sig .tc := ⟨.hbm, 51, rfl⟩
abbrev main_while0b_v31 : Ref sig .tc := ⟨.hbm, 52, rfl⟩
abbrev main_while0b_v32 : Ref sig .tc := ⟨.hbm, 53, rfl⟩
abbrev main_while0b_cst_10 : Ref sig .tc := ⟨.hbm, 54, rfl⟩
abbrev main_while0b_v33 : Ref sig .tc := ⟨.hbm, 55, rfl⟩
abbrev main_while0b_v34 : Ref sig .tc := ⟨.hbm, 56, rfl⟩
abbrev main_while0b_cst_11 : Ref sig .tc := ⟨.hbm, 57, rfl⟩
abbrev main_while0b_v35 : Ref sig .tc := ⟨.hbm, 58, rfl⟩
abbrev main_while0b_v36 : Ref sig .tc := ⟨.hbm, 59, rfl⟩
abbrev main_while0b_cst_12 : Ref sig .tc := ⟨.hbm, 60, rfl⟩
abbrev main_while0b_v37 : Ref sig .tc := ⟨.hbm, 61, rfl⟩
abbrev main_while0b_v38 : Ref sig .tc := ⟨.hbm, 62, rfl⟩
abbrev main_while0b_v39 : Ref sig .tc := ⟨.hbm, 63, rfl⟩
abbrev main_while0b_v40 : Ref sig .tc := ⟨.hbm, 64, rfl⟩
abbrev main_while0b_cst_13 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_cst_14 : Ref sig .tc := ⟨.hbm, 69, rfl⟩
abbrev main_while0b_v44 : Ref sig .tc := ⟨.hbm, 70, rfl⟩
abbrev main_while0b_v45 : Ref sig .tc := ⟨.hbm, 71, rfl⟩
abbrev main_while0b_cst_15 : Ref sig .tc := ⟨.hbm, 72, rfl⟩
abbrev main_while0b_call2_v0 : Ref sig .tc := ⟨.hbm, 73, rfl⟩
abbrev main_while0b_call2_v1 : Ref sig .tc := ⟨.hbm, 74, rfl⟩
abbrev main_while0b_v46 : Ref sig .tc := ⟨.hbm, 75, rfl⟩
abbrev main_while0b_cst_16 : Ref sig .tc := ⟨.hbm, 76, rfl⟩
abbrev main_while0b_v47 : Ref sig .tc := ⟨.hbm, 77, rfl⟩
abbrev main_while0b_v48 : Ref sig .tc := ⟨.hbm, 78, rfl⟩
abbrev main_while0b_cst_17 : Ref sig .tc := ⟨.hbm, 79, rfl⟩
abbrev main_while0b_call3_v0 : Ref sig .tc := ⟨.hbm, 80, rfl⟩
abbrev main_while0b_call3_v1 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_cst_18 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_call8_v0 : Ref sig .tc := ⟨.hbm, 95, rfl⟩
abbrev main_while0b_call8_c : Ref sig .tc := ⟨.hbm, 96, rfl⟩
abbrev main_while0b_v61 : Ref sig .tc := ⟨.hbm, 97, rfl⟩
abbrev main_while0b_c_19 : Ref sig .tc := ⟨.hbm, 98, rfl⟩
abbrev main_while0b_v62 : Ref sig .tc := ⟨.hbm, 99, rfl⟩

abbrev nD : Nat := 1
abbrev τ : Topo := Topo.v7x

variable {F : FTy → Type} [FloatOps F]

abbrev main_while0_count : Scf.Loop 32 := ⟨0#32, 40#32, 1#32⟩
-- ==== Proof.Lane.lean ====
/-
  One lane of the thermostat, over the extended reals: the step the kernel takes, the step the reference takes, and
  their equality.

  The reference scores the lane by a two-layer network, `s = logistic z` with `z = Σ relu(h_j) v_j + b2`, and moves the
  temperature by `(s * 10 - 5) * 10`. The kernel computes `z / 2` from halved weights, in four chains of sixteen terms,
  and moves the temperature by `tanh (z / 2) * 50`.
-/
module

public import Idealize.ShloMosaic.Lib.ValueIdx
public import Idealize.ShloMosaic.Lib.IdealHost

@[expose] public section

noncomputable section

namespace Cert.Proof.Lane

open Idealize.ShloMosaic

/-! ## The constants of the two programs -/

/-- `0.0`. -/
abbrev zero : EReal := Ideal.ofBits .f32 0x00000000#32
/-- `0.25`. -/
abbrev quarter : EReal := Ideal.ofBits .f32 0x3E800000#32
/-- `0.5`. -/
abbrev half : EReal := Ideal.ofBits .f32 0x3F000000#32
/-- `1.0`. -/
abbrev one : EReal := Ideal.ofBits .f32 0x3F800000#32
/-- `5.0`. -/
abbrev five : EReal := Ideal.ofBits .f32 0x40A00000#32
/-- `10.0`. -/
abbrev ten : EReal := Ideal.ofBits .f32 0x41200000#32
/-- `40.0`, the number of steps. -/
abbrev forty : EReal := Ideal.ofBits .f32 0x42200000#32
/-- `50.0`. -/
abbrev fifty : EReal := Ideal.ofBits .f32 0x42480000#32
/-- `66.0`, at or below which the heating switches on. -/
abbrev tOn : EReal := Ideal.ofBits .f32 0x42840000#32
/-- `78.0`, above which the heating switches off. -/
abbrev tOff : EReal := Ideal.ofBits .f32 0x429C0000#32

theorem zero_eq : zero = 0 := by simp [Ideal.ofBits, Ideal.ieee]
theorem quarter_eq : quarter = ((1 / 4 : ℝ) : EReal) := by
  simp [Ideal.ofBits, Ideal.ieee, -EReal.coe_mul]; norm_num
theorem half_eq : half = ((1 / 2 : ℝ) : EReal) := by
  simp [Ideal.ofBits, Ideal.ieee, -EReal.coe_mul]; norm_num
theorem one_eq : one = 1 := Ideal.ofBits_one_f32
theorem five_eq : five = ((5 : ℝ) : EReal) := by
  simp [Ideal.ofBits, Ideal.ieee, -EReal.coe_mul]; norm_num
theorem ten_eq : ten = ((10 : ℝ) : EReal) := by
  simp [Ideal.ofBits, Ideal.ieee, -EReal.coe_mul]; norm_num
theorem forty_eq : forty = ((40 : ℝ) : EReal) := by
  simp [Ideal.ofBits, Ideal.ieee, -EReal.coe_mul]; norm_num
theorem fifty_eq : fifty = ((50 : ℝ) : EReal) := by
  simp [Ideal.ofBits, Ideal.ieee, -EReal.coe_mul]; norm_num

/-! ## The thermostat's switch, common to both -/

/-- The temperature after a step whose drift took it to `u`: five degrees more while the heating is on. -/
def warm (on u : EReal) : EReal := Scalar.select (Ideal.cmp .ole on half) u (u + five)

/-- The switch after a step that ended at temperature `t`. -/
def switch (on t : EReal) : EReal :=
  Scalar.select (Ideal.cmp .ole on half) (Scalar.select (Ideal.cmp .ole t tOn) one on)
    (Scalar.select (Ideal.cmp .ole t tOff) on zero)

/-- One step of a lane's state (temperature, switch) whose drift takes the temperature to `u`. -/
def advance (u on : EReal) : EReal × EReal := (warm on u, switch on (warm on u))

/-! ## The reference's drift -/

/-- The network: hidden unit `j` reads the temperature by `a j` and the auxiliary input by `c j`, with bias `b j`; the
    output reads hidden unit `j` by `v j`, with bias `b2`. -/
structure Net where
  a : Fin 64 → EReal
  c : Fin 64 → EReal
  b : Fin 64 → EReal
  v : Fin 64 → EReal
  b2 : EReal

/-- Hidden unit `j`, as the reference computes it. -/
def hidden (N : Net) (t x : EReal) (j : Fin 64) : EReal := max ((t * N.a j + x * N.c j) + N.b j) zero

/-- The network's output before the logistic. -/
def score (N : Net) (t x : EReal) : EReal := (∑ j, hidden N t x j * N.v j) + N.b2

/-- The reference's drift at score `z`. -/
def drift (z : EReal) : EReal := (Ideal.div one (one + Ideal.exp (-z)) * ten - five) * ten

/-- The reference's step of a lane. -/
def refStep (N : Net) (x : EReal) (s : EReal × EReal) : EReal × EReal := advance (s.1 + drift (score N s.1 x)) s.2

/-! ## The kernel's drift -/

/-- Index `j` of a table of 64, counted modulo 64. -/
def at64 (j : ℕ) : Fin 64 := ⟨j % 64, Nat.mod_lt _ (by decide)⟩

/-- A chain: start at `s` and add terms `r`, `r + 4`, `r + 8`, … of `f`, `n` of them, in order. -/
def chain (f : Fin 64 → EReal) (s : EReal) (r : ℕ) : ℕ → EReal
  | 0 => s
  | n + 1 => chain f s r n + f (at64 (4 * n + r))

/-- The kernel's sum of 64 terms from a start `s`: four chains of sixteen, added in pairs. -/
def fourChains (f : Fin 64 → EReal) (s : EReal) : EReal :=
  (chain f s 0 16 + chain f s 1 16) + (chain f s 2 16 + chain f s 3 16)

/-- The kernel's term `j`: the hidden unit times its (already halved) output weight `w j`. -/
def term (N : Net) (t x : EReal) (j : Fin 64) : EReal := max (t * N.a j + (x * N.c j + N.b j)) zero * N.v j

/-- The kernel's step of a lane, at a network whose output weights and bias are already halved. -/
def kernelStep (N : Net) (x : EReal) (s : EReal × EReal) : EReal × EReal :=
  advance (s.1 + Ideal.tanh (fourChains (term N s.1 x) (N.b2 * quarter)) * fifty) s.2

/-- The network with its output layer halved: what the host hands the kernel. -/
def halved (N : Net) : Net := { N with v := fun j => N.v j * half, b2 := N.b2 * half }

/-! ## Their equality -/

/-- A chain is its start plus the sum of its terms. -/
theorem chain_eq (f : Fin 64 → EReal) (s : EReal) (r n : ℕ) :
    chain f s r n = s + ∑ i : Fin n, f (at64 (4 * i.val + r)) := by
  induction n with
  | zero => simp [chain]
  | succ n ih => rw [chain, ih, Fin.sum_univ_castSucc, add_assoc]; rfl

/-- The sixteen terms of each of the four chains are the 64 terms. -/
theorem sum_split (f : Fin 64 → EReal) :
    ∑ j, f j = (∑ i : Fin 16, f (at64 (4 * i.val + 0))) + (∑ i : Fin 16, f (at64 (4 * i.val + 1)))
      + (∑ i : Fin 16, f (at64 (4 * i.val + 2))) + (∑ i : Fin 16, f (at64 (4 * i.val + 3))) := by
  rw [← Equiv.sum_comp (finProdFinEquiv : Fin 16 × Fin 4 ≃ Fin (16 * 4)) f, Fintype.sum_prod_type, ← Finset.sum_add_distrib,
    ← Finset.sum_add_distrib, ← Finset.sum_add_distrib]
  refine Finset.sum_congr rfl fun i _ => ?_
  rw [Fin.sum_univ_four]
  have e : ∀ k : Fin 4, (finProdFinEquiv (i, k) : Fin (16 * 4)) = at64 (4 * i.val + k.val) := by
    intro k; apply Fin.ext
    show k.val + 4 * i.val = (4 * i.val + k.val) % 64
    omega
  rw [e 0, e 1, e 2, e 3]
  rfl

/-- Four quarters of a number are the number, infinite or not. -/
theorem four_quarters (x : EReal) : (x * quarter + x * quarter) + (x * quarter + x * quarter) = x := by
  have hq : (0 : EReal) ≤ quarter := by rw [quarter_eq]; exact_mod_cast (by norm_num : (0 : ℝ) ≤ 1 / 4)
  rw [← EReal.left_distrib_of_nonneg hq hq, ← EReal.left_distrib_of_nonneg (add_nonneg hq hq) (add_nonneg hq hq), quarter_eq]
  rw [← EReal.coe_add, ← EReal.coe_add, show (1 / 4 + 1 / 4 + (1 / 4 + 1 / 4) : ℝ) = 1 by norm_num]
  simp

/-- The four chains add up to the whole sum and the whole start. -/
theorem fourChains_eq (f : Fin 64 → EReal) (x : EReal) : fourChains f (x * quarter) = (∑ j, f j) + x := by
  unfold fourChains
  rw [chain_eq, chain_eq, chain_eq, chain_eq, sum_split f]
  conv_rhs => rw [← four_quarters x]
  abel

/-- Halving distributes over a sum, infinite or not. -/
theorem add_mul_half (x y : EReal) : (x + y) * half = x * half + y * half := by
  rw [half_eq]
  exact EReal.right_distrib_of_nonneg_of_ne_top (by exact_mod_cast (by norm_num : (0 : ℝ) ≤ 1 / 2)) (EReal.coe_ne_top _) x y

theorem sum_mul_half {ι : Type} (s : Finset ι) (f : ι → EReal) : (∑ j ∈ s, f j) * half = ∑ j ∈ s, f j * half := by
  classical
  induction s using Finset.induction_on with
  | empty => simp
  | insert a s ha ih => rw [Finset.sum_insert ha, Finset.sum_insert ha, add_mul_half, ih]

/-- What the kernel's four chains hold, at the halved network: half the reference's score. -/
theorem fourChains_halved (N : Net) (t x : EReal) :
    fourChains (term (halved N) t x) ((halved N).b2 * quarter) = score N t x * half := by
  rw [fourChains_eq, score, add_mul_half, sum_mul_half]
  refine congrArg₂ (· + ·) (Finset.sum_congr rfl fun j _ => ?_) rfl
  show max (t * N.a j + (x * N.c j + N.b j)) zero * (N.v j * half) = hidden N t x j * N.v j * half
  rw [hidden, add_assoc, mul_assoc]

/-- The identity behind it, at a real score: `(σ(r) * 10 - 5) * 10 = tanh (r / 2) * 50`. -/
theorem tanh_drift_real (r : ℝ) : Real.tanh (r * (1 / 2)) * 50 = ((1 + Real.exp (-r))⁻¹ * 10 - 5) * 10 := by
  have hp := Real.exp_pos (r * (1 / 2))
  have h1 : Real.exp (-(r * (1 / 2))) = (Real.exp (r * (1 / 2)))⁻¹ := Real.exp_neg _
  have h2 : Real.exp (-r) = ((Real.exp (r * (1 / 2))) ^ 2)⁻¹ := by
    rw [← Real.exp_nat_mul, ← Real.exp_neg]; congr 1; push_cast; ring
  rw [Real.tanh_eq_sinh_div_cosh, Real.sinh_eq, Real.cosh_eq, h1, h2]
  generalize Real.exp (r * (1 / 2)) = e at hp
  have h3 : (1 + (e ^ 2)⁻¹) ≠ 0 := by positivity
  have h4 : e + e⁻¹ ≠ 0 := by positivity
  field_simp
  ring

/-- The logistic drift is the hyperbolic one: `(logistic z * 10 - 5) * 10 = tanh (z / 2) * 50`, at the infinities too. -/
theorem tanh_drift (z : EReal) : Ideal.tanh (z * half) * fifty = drift z := by
  unfold drift
  rw [half_eq, fifty_eq, one_eq, ten_eq, five_eq]
  change _ = (Ideal.logistic z * _ - _) * _
  induction z with
  | bot =>
    rw [EReal.bot_mul_coe_of_pos (by norm_num), Ideal.tanh_bot, Ideal.logistic_bot, zero_mul, zero_sub, ← EReal.coe_neg,
      ← EReal.coe_mul, show (-1 : EReal) = ((-1 : ℝ) : EReal) from rfl, ← EReal.coe_mul]
    norm_num
  | coe r =>
    rw [← EReal.coe_mul, Ideal.tanh_coe, Ideal.logistic_coe, ← EReal.coe_mul, ← EReal.coe_mul, ← EReal.coe_sub,
      ← EReal.coe_mul, tanh_drift_real]
  | top =>
    rw [EReal.top_mul_coe_of_pos (by norm_num), Ideal.tanh_top, Ideal.logistic_top, one_mul, one_mul, ← EReal.coe_sub,
      ← EReal.coe_mul]
    norm_num

/-- ONE STEP OF A LANE: the kernel's, at the halved network, is the reference's. -/
theorem kernelStep_eq (N : Net) (x : EReal) (s : EReal × EReal) : kernelStep (halved N) x s = refStep N x s := by
  unfold kernelStep refStep
  rw [fourChains_halved, tanh_drift]

end Cert.Proof.Lane

end
-- ==== Proof.Block.lean ====
module

public import proofs.«01_k».proof.Proof.Gen.KernelIdeal.Frame
public import proofs.«01_k».proof.Proof.Lane
public import Idealize.ShloMosaic.Lib.Pipeline.Value
public import Idealize.ShloMosaic.Lib.ValueLayout

/-!
# What one block computes

One run of the kernel's body reads five tables of the network, and a block of temperatures, of auxiliary inputs and of
switches. It steps every lane of the block forty times and stores the temperatures after each step. This module states what
the block of forty rows it leaves holds at each index, in terms of `Lane.kernelStep`.
-/

@[expose] public section
noncomputable section
namespace Cert.KernelIdeal.Gen

open Idealize.ShloMosaic Idealize.ShloMosaic.TcCoe Idealize.ShloMosaic.Tactic
open Idealize.SL Idealize.SL.RA Idealize.SL.BI
open Cert.Proof

/-- A block of one number per lane. -/
abbrev Block := FVec Ideal S64x128 .f32

/-- Every lane's (temperature, switch) after `k` of the kernel's steps, from the block of temperatures and the block of
    switches; the auxiliary inputs are constant over the steps. -/
def lanes (N : Lane.Net) (temp aux ison : Block) : ℕ → S64x128.Idx → EReal × EReal
  | 0 => fun y => (temp y, ison y)
  | k + 1 => fun y => Lane.kernelStep N (aux y) (lanes N temp aux ison k y)

/-- The row and lane an index of an output block reads of the input blocks. -/
def pt (y : S40x64x128.Idx) : S64x128.Idx := ValueIdx.ix2 (y 1 : Fin 64) (y 2 : Fin 128)

/-- The network a block's step reads. -/
def net (x0 x1 x2 x3 : Vec Ideal S64 .f32) (x4 : Vec Ideal S1 .f32) : Lane.Net where
  a j := x0 (ValueIdx.ix1 j)
  c j := x1 (ValueIdx.ix1 j)
  b j := x2 (ValueIdx.ix1 j)
  v j := x3 (ValueIdx.ix1 j)
  b2 := x4 (ValueIdx.ix1 (0 : Fin 1))

/-! ## The loads -/

/-- The scalar load of entry `j` of a table of 64 reads that entry. -/
theorem word64 (m : Memref sig .tc .smem S64 .f32) (hm : m.IsWhole) (x : Vec Ideal S64 .f32) (j : ℕ)
    (hj : ∀ a, (![j] : Fin 1 → Nat) a + S1.size a ≤ S64.size a) (hf : 0 < (Rect.unit (s := S64) ![j] ![1] hj).toLoadRect.shape.numel) :
    m.view.readAt (Elt Ideal) (Rect.unit (s := S64) ![j] ![1] hj).toLoadRect (hm.unread x) (Shape.Idx.first hf)
      = x (ValueIdx.ix1 (Lane.at64 j)) := by
  rw [View.readAt_eq_ld, hm.read_unread]
  refine congrArg x (funext fun a => Fin.ext ?_)
  have h0 : j + 1 ≤ 64 := hj 0
  match a with
  | 0 => show j + 1 * 0 = j % 64; omega

/-- The scalar load of the one entry of the output bias reads it. -/
theorem word1 (m : Memref sig .tc .smem S1 .f32) (hm : m.IsWhole) (x : Vec Ideal S1 .f32)
    (hj : ∀ a, (![0] : Fin 1 → Nat) a + S1.size a ≤ S1.size a) (hf : 0 < (Rect.unit (s := S1) ![0] ![1] hj).toLoadRect.shape.numel) :
    m.view.readAt (Elt Ideal) (Rect.unit (s := S1) ![0] ![1] hj).toLoadRect (hm.unread x) (Shape.Idx.first hf)
      = x (ValueIdx.ix1 (0 : Fin 1)) := by
  rw [View.readAt_eq_ld, hm.read_unread]
  refine congrArg x (funext fun a => Fin.ext ?_)
  match a with
  | 0 => rfl

/-- The load of a whole block, with the cast to its own shape, reads the block. -/
theorem block_read (m : Memref sig .tc .vmem S64x128 .f32) (hm : m.IsWhole) (x : Block)
    (hj : ∀ a, (![0, 0] : Fin 2 → Nat) a + S64x128.size a ≤ S64x128.size a) (h : S64x128.ShapeCasts S64x128) :
    shapeCast S64x128 (m.view.readAt (Elt Ideal) (Rect.unit (s := S64x128) ![0, 0] ![64, 128] hj).toLoadRect (hm.unread x)) h = x := by
  have e : (![0, 0] : Fin 2 → Nat) = fun _ => 0 := by decide
  rw [View.readAt_eq_ld, hm.read_unread]
  exact (congrArg (fun v : Block => shapeCast S64x128 v h) (View.ld_unit_zero (Val := Elt Ideal) (S := S64x128) (e := .f32) e hj x)).trans (shapeCast_self x h)

/-- The same, at the auxiliary block. -/
theorem aux_read (m : Memref sig .tc .vmem S64x128 .f32) (hm : m.IsWhole) (x : Block)
    (hj : ∀ a, (![0, 0] : Fin 2 → Nat) a + S64x128.size a ≤ S64x128.size a) :
    k0_pay56 (m.view.readAt (Elt Ideal) (Rect.unit (s := S64x128) ![0, 0] ![64, 128] hj).toLoadRect (hm.unread x)) = x :=
  block_read m hm x hj _

/-! ## One step -/

/-- The switch logic over a block, read at a lane: from drifted temperatures `u` and switches `ison` it gives the lane's
    new state. -/
theorem advance_block (ison u : Block) (y : S64x128.Idx) (v : EReal) (hu : u y = v) :
    (k0_pay2 (k0_pay53 ison) u y, k0_pay3 ison (k0_pay53 ison) u y) = Lane.advance v (ison y) := by
  subst hu; rfl

/-- One hidden unit's term over a block, read at a lane. -/
theorem term_block (x0 x1 x2 x3 : Vec Ideal S64 .f32) (x4 : Vec Ideal S1 .f32) (temp aux : Block) (y : S64x128.Idx) (j : Fin 64) :
    mulf (maximumf (addf (mulf temp (broadcast S64x128 (x0 (ValueIdx.ix1 j))))
        (addf (mulf aux (broadcast S64x128 (x1 (ValueIdx.ix1 j)))) (broadcast S64x128 (x2 (ValueIdx.ix1 j)))))
      (broadcast S64x128 (FloatOps.ofBits FTy.f32 0#32))) (broadcast S64x128 (x3 (ValueIdx.ix1 j))) y
      = Lane.term (net x0 x1 x2 x3 x4) (temp y) (aux y) j := by
  rw [ValueIdx.mulf_apply, ValueIdx.maximumf_apply]
  rfl

/-! ## Forty steps -/

/-- The store of trip `k` is at row `k`. -/
theorem emb_row (k : Fin k0_t1_loop.trips) (x : S1x64x128.Idx) :
    ((Rect.unit (s := S40x64x128) (k0_off1 k) S1x64x128.size (k0_off1_inb k)).emb x 0).val = k.val := by
  have hx0 : (x 0).val = 0 := Nat.lt_one_iff.1 (x 0).isLt
  show k0_off1 k 0 + 1 * (x 0).val = k.val
  rw [k0_off1_eq, hx0]; rfl

/-- The store of trip `k` puts row and lane of the block at the same row and lane of the output block. -/
theorem emb_pt (k : Fin k0_t1_loop.trips) (x : S1x64x128.Idx) :
    pt ((Rect.unit (s := S40x64x128) (k0_off1 k) S1x64x128.size (k0_off1_inb k)).emb x)
      = ValueIdx.ix2 (x 1 : Fin 64) (x 2 : Fin 128) := by
  refine congrArg₂ ValueIdx.ix2 (Fin.ext ?_) (Fin.ext ?_)
  · show k0_off1 k 1 + 1 * (x 1).val = (x 1).val
    rw [k0_off1_eq]; show 0 + 1 * (x 1).val = _; omega
  · show k0_off1 k 2 + 1 * (x 2).val = (x 2).val
    rw [k0_off1_eq]; show 0 + 1 * (x 2).val = _; omega

/-- A block as the one row a store writes, read at an index of that row. -/
theorem cast_row (v : Block) (x : S1x64x128.Idx) :
    shapeCast S1x64x128 v shapeCasts_S64x128_S1x64x128 x = v (ValueIdx.ix2 (x 1 : Fin 64) (x 2 : Fin 128)) := by
  have ex : x = ValueIdx.ix3 (x 0 : Fin 1) (x 1 : Fin 64) (x 2 : Fin 128) := by
    funext a
    match a with
    | 0 => rfl
    | 1 => rfl
    | 2 => rfl
  exact (congrArg _ ex).trans (ValueIdx.shapeCast_ab_1ab_apply v _ _ _ _)

/-- Of a recursion `S` over the trips — the carried blocks, and the stores so far: if each trip's carried blocks are one
    `Lane.kernelStep` of every lane (`hR`), and its one store is the carried temperatures at row `k` (`hL`), then every store
    of the whole loop holds, at each index, the temperature its lane has after as many steps as the row says. -/
theorem trips_pieces (N : Lane.Net) (temp aux ison : Block)
   (S : ℕ → (Block × Block) × List (View.Piece (Elt Ideal) S40x64x128 .f32))
   (R : Fin k0_t1_loop.trips → Block × Block → Block × Block)
   (L : Fin k0_t1_loop.trips → Block × Block → List (View.Piece (Elt Ideal) S40x64x128 .f32))
   (h0 : (S 0).1 = (temp, ison)) (h0' : (S 0).2 = [])
   (hs : ∀ k : Fin k0_t1_loop.trips, S (k.val + 1) = (R k (S k.val).1, L k (S k.val).1 ++ (S k.val).2))
   (hR : ∀ k acc y, ((R k acc).1 y, (R k acc).2 y) = Lane.kernelStep N (aux y) (acc.1 y, acc.2 y))
   (hL : ∀ k acc, L k acc = [⟨Rect.unit (k0_off1 k) S1x64x128.size (k0_off1_inb k), shapeCast S1x64x128 (R k acc).1 shapeCasts_S64x128_S1x64x128⟩]) :
   ∀ p ∈ (S k0_t1_loop.trips).2, ∀ x, p.2 x = (lanes N temp aux ison ((p.1.emb x 0).val + 1) (pt (p.1.emb x))).1 := by
  have hacc : ∀ k ≤ k0_t1_loop.trips, ∀ y, ((S k).1.1 y, (S k).1.2 y) = lanes N temp aux ison k y := by
    intro k
    induction k with
    | zero => intro _ y; rw [h0]; rfl
    | succ k ih =>
      intro hk y
      rw [hs ⟨k, hk⟩]
      exact (hR ⟨k, hk⟩ _ y).trans (congrArg (Lane.kernelStep N (aux y)) (ih (Nat.le_of_succ_le hk) y))
  have hpc : ∀ k ≤ k0_t1_loop.trips, ∀ p ∈ (S k).2, ∀ x,
      p.2 x = (lanes N temp aux ison ((p.1.emb x 0).val + 1) (pt (p.1.emb x))).1 := by
    intro k
    induction k with
    | zero => intro _ p hp; rw [h0'] at hp; exact absurd hp List.not_mem_nil
    | succ k ih =>
      intro hk p hp x
      rw [hs ⟨k, hk⟩] at hp
      rcases List.mem_append.1 hp with h | h
      · rw [hL ⟨k, hk⟩] at h
        obtain rfl := List.mem_singleton.1 h
        refine (cast_row _ x).trans ?_
        rw [emb_row ⟨k, hk⟩ x, emb_pt ⟨k, hk⟩ x]
        refine (congrArg Prod.fst (hR ⟨k, hk⟩ (S k).1 _)).trans ?_
        rw [hacc k (Nat.le_of_succ_le hk)]
        rfl
      · exact ih (Nat.le_of_succ_le hk) p h x
  exact hpc _ le_rfl

set_option maxRecDepth 10000 in
set_option maxHeartbeats 4000000 in
/-- Every store the body makes holds, at each index, the temperature its lane has after as many steps as the row says. -/
theorem pieces_apply (c : Dev nD) (i : grid0.Coords) (arg1 : Memref sig .tc .smem S64 .f32) (harg1 : arg1.IsWhole) (arg2 : Memref sig .tc .smem S64 .f32) (harg2 : arg2.IsWhole) (arg3 : Memref sig .tc .smem S64 .f32) (harg3 : arg3.IsWhole) (arg4 : Memref sig .tc .smem S64 .f32) (harg4 : arg4.IsWhole) (arg5 : Memref sig .tc .smem S1 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S40x64x128 .f32) (harg9 : arg9.IsWhole)
    (x0 : Vec Ideal S64 .f32) (x1 : Vec Ideal S64 .f32) (x2 : Vec Ideal S64 .f32) (x3 : Vec Ideal S64 .f32) (x4 : Vec Ideal S1 .f32) (x5 : Vec Ideal S64x128 .f32) (x6 : Vec Ideal S64x128 .f32) (x7 : Vec Ideal S64x128 .f32) :
    ∀ p ∈ (kernelRun0_A c i arg1 harg1 arg2 harg2 arg3 harg3 arg4 harg4 arg5 harg5 arg6 harg6 arg7 harg7 arg8 harg8 arg9 harg9 x0 x1 x2 x3 x4 x5 x6 x7).1, ∀ x, p.2 x = (lanes (net x0 x1 x2 x3 x4) x5 x6 x7 ((p.1.emb x 0).val + 1) (pt (p.1.emb x))).1 := by
  unfold kernelRun0_A
  dsimp only
  sl_unfold_words
  refine trips_pieces (net x0 x1 x2 x3 x4) x5 x6 x7 _ _ _ ((st_k0_t1_zero ..).trans ?_) (by rw [st_k0_t1.eq_1]) (fun k => st_k0_t1_succ ..) ?_ ?_
  · refine Prod.ext ?_ ?_
    · exact block_read arg6 harg6 x5 _ _
    · exact block_read arg8 harg8 x7 _ _
  · intro k acc y
    unfold tripR_k0_t1 trip_k0_t1
    dsimp only
    sl_unfold_words
    simp only [word64, word1, aux_read]
    refine advance_block acc.2 _ y _ ?_
    simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
    refine congrArg₂ (fun a b : EReal => a + b) rfl ?_
    refine congrArg₂ (fun a b : EReal => a * b) ?_ rfl
    refine congrArg Ideal.tanh ?_
    simp only [ValueIdx.addf_apply, term_block x0 x1 x2 x3 x4 acc.1 x6 y]
    generalize Lane.term (net x0 x1 x2 x3 x4) (acc.1 y) (x6 y) = f
    rfl
  · intro k acc
    unfold tripL_k0_t1 tripR_k0_t1 trip_k0_t1
    rfl

variable (m : (ℓ : Loc nD τ sig) → Buf (Elt Ideal) ℓ)

/-- What the body leaves at grid point `t`, at row `y 0`, block row `y 1`, lane `y 2`: that lane's temperature after
    `y 0 + 1` of the kernel's steps, from the point's own blocks. -/
theorem outsAt0_apply (c : Dev nD) (t : Fin cfg0.N) (y : S40x64x128.Idx) :
    outsAt0 m c t y = (lanes (net (iblk m c 0 t) (iblk m c 1 t) (iblk m c 2 t) (iblk m c 3 t) (iblk m c 4 t))
      (iblk m c 5 t) (iblk m c 6 t) (iblk m c 7 t) ((y 0).val + 1) (pt y)).1 := by
  unfold outsAt0 out0_A_8
  rw [View.read_writes_eq_canon _ _ _ (fun y => cover0_A_8 c _ _ _ _ _ _ _ _ _ _ _ _ _ _ _ _ _ _ _ _ _ _ _ _ _ _ _ y)]
  refine View.canon_apply_of_pieces (Val := Elt Ideal) (e := .f32) (fun y : S40x64x128.Idx => (lanes (net (iblk m c 0 t) (iblk m c 1 t) (iblk m c 2 t)
    (iblk m c 3 t) (iblk m c 4 t)) (iblk m c 5 t) (iblk m c 6 t) (iblk m c 7 t) ((y 0).val + 1) (pt y)).1) _ ?_ y ?_
  · exact pieces_apply c _ _ _ _ _ _ _ _ _ _ _ _ _ _ _ _ _ _ _ _ _ _ _ _ _ _ _
  · exact cover0_A_8 c _ _ _ _ _ _ _ _ _ _ _ _ _ _ _ _ _ _ _ _ _ _ _ _ _ _ _ y

end Cert.KernelIdeal.Gen
-- ==== Proof.Array.lean ====
module

public import proofs.«01_k».proof.Proof.Block

/-!
# What the output array holds

The kernel runs its body at 32 grid points. Point `t` reads rows `64 t … 64 t + 63` of the three lane arrays and the five
tables whole, and writes rows `64 t … 64 t + 63` of each of the forty planes of the output array. This module states what
the output array holds at each index once every point has run.
-/

@[expose] public section
set_option maxRecDepth 16384
noncomputable section
namespace Cert.KernelIdeal.Gen

open Idealize.ShloMosaic Idealize.ShloMosaic.TcCoe
open Idealize.ShloMosaic.Pipeline (Dat)
open Cert.Proof

variable (m : (ℓ : Loc nD τ sig) → Buf (Elt Ideal) ℓ)

/-! ## Where the blocks sit -/

/-- The block indices of point `t`: rows by `t`, everything else whole. -/
theorem index_eq : ∀ t : Fin grid0.N, win0_0.index t 0 = 0 ∧ win0_4.index t 0 = 0
    ∧ (win0_5.index t 0 = t.val ∧ win0_5.index t 1 = 0)
    ∧ win0_8.index t 0 = 0 ∧ win0_8.index t 1 = t.val ∧ win0_8.index t 2 = 0 := by decide +kernel

/-- There are 32 grid points. -/
theorem point_lt (t : Fin cfg0.N) : t.val < 32 := lt_of_lt_of_eq t.isLt (by decide : cfg0.N = 32)

/-- Row `r` of point `t`'s block is this row of the array. -/
def rowOf (t : Fin cfg0.N) (r : Fin 64) : Fin 2048 := ⟨t.val * 64 + r.val, by have := point_lt t; omega⟩

/-- A table's block is the table. -/
theorem table_emb (t : Fin cfg0.N) (y : S64.Idx) : (win0_0.rect t).emb y = y := by
  funext a
  match a with
  | 0 =>
    refine Fin.ext ((win0_0.rect_emb_val t y 0).trans ?_)
    rw [(index_eq t).1]; exact (congrArg (· + (y 0).val) (Nat.zero_mul _)).trans (Nat.zero_add _)

/-- The one-entry table's block is the table. -/
theorem table1_emb (t : Fin cfg0.N) (y : S1.Idx) : (win0_4.rect t).emb y = y := by
  funext a
  match a with
  | 0 =>
    refine Fin.ext ((win0_4.rect_emb_val t y 0).trans ?_)
    rw [(index_eq t).2.1]; exact (congrArg (· + (y 0).val) (Nat.zero_mul _)).trans (Nat.zero_add _)

/-- A lane array's block is its 64 rows. -/
theorem lanes_emb (t : Fin cfg0.N) (y : S64x128.Idx) :
    (win0_5.rect t).emb y = ValueIdx.ix2 (rowOf t (y 0)) (y 1 : Fin 128) := by
  funext a
  match a with
  | 0 =>
    refine Fin.ext ((win0_5.rect_emb_val t y 0).trans ?_)
    rw [(index_eq t).2.2.1.1]; rfl
  | 1 =>
    refine Fin.ext ((win0_5.rect_emb_val t y 1).trans ?_)
    rw [(index_eq t).2.2.1.2]; exact (congrArg (· + (y 1).val) (Nat.zero_mul _)).trans (Nat.zero_add _)

/-- The output array's block is its 64 rows of every plane. -/
theorem out_emb (t : Fin cfg0.N) (y : S40x64x128.Idx) :
    (win0_8.rect t).emb y = ValueIdx.ix3 (y 0 : Fin 40) (rowOf t (y 1)) (y 2 : Fin 128) := by
  funext a
  match a with
  | 0 =>
    refine Fin.ext ((win0_8.rect_emb_val t y 0).trans ?_)
    rw [(index_eq t).2.2.2.1]; exact (congrArg (· + (y 0).val) (Nat.zero_mul _)).trans (Nat.zero_add _)
  | 1 =>
    refine Fin.ext ((win0_8.rect_emb_val t y 1).trans ?_)
    rw [(index_eq t).2.2.2.2.1]; rfl
  | 2 =>
    refine Fin.ext ((win0_8.rect_emb_val t y 2).trans ?_)
    rw [(index_eq t).2.2.2.2.2]; exact (congrArg (· + (y 2).val) (Nat.zero_mul _)).trans (Nat.zero_add _)

/-! ## The network and the lanes as the region finds them -/

/-- The network the kernel is handed. -/
def handed (c : Dev nD) : Lane.Net :=
  net (V m c main_call0_v10) (V m c main_call0_v12) (V m c main_arg2) (V m c main_call0_v15) (V m c main_call0_v17)

/-- Every point reads the network it is handed. -/
theorem net_iblk (c : Dev nD) (t : Fin cfg0.N) :
    net (iblk m c 0 t) (iblk m c 1 t) (iblk m c 2 t) (iblk m c 3 t) (iblk m c 4 t) = handed m c := by
  have e0 : iblk m c 0 t = V m c main_call0_v10 := funext fun y => congrArg (V m c main_call0_v10) (table_emb t y)
  have e1 : iblk m c 1 t = V m c main_call0_v12 := funext fun y => congrArg (V m c main_call0_v12) (table_emb t y)
  have e2 : iblk m c 2 t = V m c main_arg2 := funext fun y => congrArg (V m c main_arg2) (table_emb t y)
  have e3 : iblk m c 3 t = V m c main_call0_v15 := funext fun y => congrArg (V m c main_call0_v15) (table_emb t y)
  have e4 : iblk m c 4 t = V m c main_call0_v17 := funext fun y => congrArg (V m c main_call0_v17) (table1_emb t y)
  rw [e0, e1, e2, e3, e4]; rfl

/-- The lanes after `k` steps, lane by lane: `k` of the kernel's steps of that lane. -/
theorem lanes_eq (N : Lane.Net) (temp aux ison : Block) (k : ℕ) (y : S64x128.Idx) :
    lanes N temp aux ison k y = (Lane.kernelStep N (aux y))^[k] (temp y, ison y) := by
  induction k with
  | zero => rfl
  | succ k ih => rw [Function.iterate_succ_apply', ← ih]; rfl

/-- The temperature of the lane at row `r`, lane `l` of the arrays after `n + 1` of the kernel's steps. -/
def laneTemp (c : Dev nD) (n : ℕ) (r : Fin 2048) (l : Fin 128) : EReal :=
  ((Lane.kernelStep (handed m c) (V m c main_call0_v5 (ValueIdx.ix2 r l)))^[n + 1]
    (V m c main_call0_v2 (ValueIdx.ix2 r l), V m c main_call0_v8 (ValueIdx.ix2 r l))).1

/-- What point `t` leaves at an index of its block. -/
theorem outsAt0_lane (c : Dev nD) (t : Fin cfg0.N) (y : S40x64x128.Idx) :
    outsAt0 m c t y = laneTemp m c (y 0).val (rowOf t (y 1)) (y 2 : Fin 128) := by
  have e5 : iblk m c 5 t (pt y) = V m c main_call0_v2 (ValueIdx.ix2 (rowOf t (y 1)) (y 2 : Fin 128)) :=
    congrArg (V m c main_call0_v2) (lanes_emb t (pt y))
  have e6 : iblk m c 6 t (pt y) = V m c main_call0_v5 (ValueIdx.ix2 (rowOf t (y 1)) (y 2 : Fin 128)) :=
    congrArg (V m c main_call0_v5) (lanes_emb t (pt y))
  have e7 : iblk m c 7 t (pt y) = V m c main_call0_v8 (ValueIdx.ix2 (rowOf t (y 1)) (y 2 : Fin 128)) :=
    congrArg (V m c main_call0_v8) (lanes_emb t (pt y))
  rw [outsAt0_apply, net_iblk, lanes_eq]
  unfold laneTemp
  rw [← e5, ← e6, ← e7]

/-! ## The whole array -/

/-- The output array as a function of its index. -/
def outArray (c : Dev nD) : S40x2048x128.Idx → EReal := fun i => laneTemp m c (i 0).val (i 1 : Fin 2048) (i 2 : Fin 128)

/-- What point `t` writes back is its block of `outArray`. -/
theorem flushed_out (c : Dev nD) (t : Fin cfg0.N) :
    (dats m 0 c).flushed 8 t = ((cfg0.win 8).blk t).view.read (Elt Ideal) (outArray m c) := by
  show (cfg0.win 8).cut (grid0.coords t) ((dats m 0 c).after 8 t) = _
  rw [after0_8]
  funext y
  show outsAt0 m c t y = outArray m c ((win0_8.rect t).emb y)
  rw [out_emb, outsAt0_lane]
  rfl

/-- The first index and the extent, on each axis, of point `t`'s block of the output array. -/
theorem extent_eq : ∀ t : Fin grid0.N,
    (win0_8.index t 0 * win0_8.size 0 = 0 ∧ win0_8.xsize (grid0.coords t) 0 = 40)
    ∧ (win0_8.index t 1 * win0_8.size 1 = t.val * 64 ∧ win0_8.xsize (grid0.coords t) 1 = 64)
    ∧ win0_8.index t 2 * win0_8.size 2 = 0 ∧ win0_8.xsize (grid0.coords t) 2 = 128 := by decide +kernel

/-- Every index of the output array is in the block of the point that has its row. -/
theorem covered_out (i : S40x2048x128.Idx) : ∃ t : Fin cfg0.N, (cfg0.win 8).flush t = true ∧ i ∈ ((cfg0.win 8).blk t).view.set := by
  have h0 : (i 0).val < 40 := (i 0).isLt
  have h1 : (i 1).val < 2048 := (i 1).isLt
  have h2 : (i 2).val < 128 := (i 2).isLt
  have hN : cfg0.N = 32 := by decide
  let t : Fin grid0.N := ⟨(i 1).val / 64, by have : grid0.N = 32 := hN; omega⟩
  refine ⟨t, flush0_8 t, ?_⟩
  show (i : S40x2048x128.Idx) ∈ ((View.whole main_call0_v18).slice (win0_8.rect t)).set
  rw [View.set_slice_whole, Rect.mem_set_unit]
  have e := extent_eq t
  have ht : t.val = (i 1).val / 64 := rfl
  intro a
  match a with
  | ⟨0, _⟩ =>
    show win0_8.index t 0 * win0_8.size 0 ≤ (i 0).val ∧ (i 0).val < win0_8.index t 0 * win0_8.size 0 + win0_8.xsize (grid0.coords t) 0
    omega
  | ⟨1, _⟩ =>
    show win0_8.index t 1 * win0_8.size 1 ≤ (i 1).val ∧ (i 1).val < win0_8.index t 1 * win0_8.size 1 + win0_8.xsize (grid0.coords t) 1
    omega
  | ⟨2, _⟩ =>
    show win0_8.index t 2 * win0_8.size 2 ≤ (i 2).val ∧ (i 2).val < win0_8.index t 2 * win0_8.size 2 + win0_8.xsize (grid0.coords t) 2
    omega

/-- Once every point has run, the output array is `outArray`. -/
theorem final_out (c : Dev nD) : (dats m 0 c).arrAt 8 cfg0.N = outArray m c :=
  (dats m 0 c).arrAt_eq_of_cover 8 (outArray m c) (fun t _ => flushed_out m c t) covered_out

end Cert.KernelIdeal.Gen
-- ==== Proof.Answer.lean ====
/-
  The result both programs compute: the temperature of each of the 262144 lanes after each of 40 steps, in terms of the
  five argument arrays.
-/
module

public import proofs.«01_k».proof.Proof.Lane

@[expose] public section

noncomputable section

namespace Cert.Proof

open Idealize.ShloMosaic Idealize.ShloMosaic.ValueIdx

/-- The initial states: a row per lane, of step count, switch, temperature and the input held fixed. -/
abbrev Rows := (⟨2, ![262144, 4]⟩ : Shape).Idx → EReal
/-- The first layer's weights: row 0 for the temperature, row 1 for the fixed input. -/
abbrev Weights1 := (⟨2, ![2, 64]⟩ : Shape).Idx → EReal
/-- The first layer's bias. -/
abbrev Bias1 := (⟨1, ![64]⟩ : Shape).Idx → EReal
/-- The second layer's weights. -/
abbrev Weights2 := (⟨2, ![64, 1]⟩ : Shape).Idx → EReal
/-- The second layer's bias. -/
abbrev Bias2 := (⟨1, ![1]⟩ : Shape).Idx → EReal

/-- The network the four parameter arrays describe. -/
def netOf (W1 : Weights1) (b1 : Bias1) (W2 : Weights2) (b2 : Bias2) : Lane.Net where
  a j := W1 (ix2 (0 : Fin 2) j)
  c j := W1 (ix2 (1 : Fin 2) j)
  b j := b1 (ix1 j)
  v j := W2 (ix2 j (0 : Fin 1))
  b2 := b2 (ix1 (0 : Fin 1))

/-- Lane `B`'s temperature and switch after `n` steps. -/
def laneAfter (x : Rows) (W1 : Weights1) (b1 : Bias1) (W2 : Weights2) (b2 : Bias2) (B : Fin 262144) (n : ℕ) : EReal × EReal :=
  (Lane.refStep (netOf W1 b1 W2 b2) (x (ix2 B (3 : Fin 4))))^[n] (x (ix2 B (2 : Fin 4)), x (ix2 B (1 : Fin 4)))

/-- One more step. -/
theorem laneAfter_succ (x : Rows) (W1 : Weights1) (b1 : Bias1) (W2 : Weights2) (b2 : Bias2) (B : Fin 262144) (n : ℕ) :
    laneAfter x W1 b1 W2 b2 B (n + 1)
      = Lane.refStep (netOf W1 b1 W2 b2) (x (ix2 B (3 : Fin 4))) (laneAfter x W1 b1 W2 b2 B n) :=
  Function.iterate_succ_apply' _ _ _

/-- The result: row `n` has every lane's temperature after `n + 1` steps. -/
def answer (x : Rows) (W1 : Weights1) (b1 : Bias1) (W2 : Weights2) (b2 : Bias2) : (⟨2, ![40, 262144]⟩ : Shape).Idx → EReal :=
  fun i => (laneAfter x W1 b1 W2 b2 (i 1 : Fin 262144) ((i 0).val + 1)).1

end Cert.Proof
-- ==== Proof.HostSide.lean ====
module

public import proofs.«01_k».proof.Proof.Array
public import proofs.«01_k».proof.Proof.Answer

/-!
# The operations around the grid

Before the grid the program cuts columns 2, 3 and 1 out of the initial states and lays each out as 2048 rows of 128
lanes, cuts the two rows out of the first layer's weights, and halves the second layer's weights and bias. After the grid
it reshapes each plane of the output to one row of 262144. This module states what each of these arrays holds at an
index, and from it what the kernel's result array holds: `answer` of the arguments.
-/

@[expose] public section
set_option maxRecDepth 16384
noncomputable section
namespace Cert.KernelIdeal.Gen

open Idealize.ShloMosaic Idealize.ShloMosaic.TcCoe
open Idealize.ShloMosaic.ValueIdx
open Cert.Proof

variable (m : (ℓ : Loc nD τ sig) → Buf (Elt Ideal) ℓ)

/-! ## The layout operations at an index -/

/-- The lane at row `r`, place `l` of the 2048 × 128 layout. -/
def laneNo (r : Fin 2048) (l : Fin 128) : Fin 262144 := ⟨r.val * 128 + l.val, by omega⟩

/-- A column of the initial states, cut out and laid out as 2048 × 128. -/
theorem column_apply (o : Nat) (k : Fin 4) (hk : k.val = o) (x : Rows) (h : S262144x4.Slices ![0, o] S262144x1)
    (r : Fin 2048) (l : Fin 128) :
    shapeCast S2048x128 (shapeCast S262144 (extractStridedSlice S262144x1 ![0, o] x h) shapeCasts_S262144x1_S262144)
      shapeCasts_S262144_S2048x128 (ix2 r l) = x (ix2 (laneNo r l) k) := by
  refine (shapeCast_apply _ _ _ (ix1 (laneNo r l)) ?_).trans ?_
  · rw [Shape.rowMajor_val_one, Shape.rowMajor_val_two]; rfl
  refine (shapeCast_apply _ _ _ (ix2 (laneNo r l) (0 : Fin 1)) ?_).trans ?_
  · rw [Shape.rowMajor_val_one, Shape.rowMajor_val_two]
    show (laneNo r l).val * 1 + 0 = (laneNo r l).val
    omega
  exact slice2_axis1_apply o x h _ _ k (by rw [hk]; rfl)

/-- A row of the first layer's weights, cut out and laid out as a vector. -/
theorem row_apply (o : Nat) (k : Fin 2) (hk : k.val = o) (w : Weights1) (h : S2x64.Slices ![o, 0] S1x64) (j : Fin 64) :
    shapeCast S64 (extractStridedSlice S1x64 ![o, 0] w h) shapeCasts_S1x64_S64 (ix1 j) = w (ix2 k j) :=
  (shapeCast_1a_a_apply _ _ j).trans (slice2_axis0_apply o w h _ _ k (by rw [hk]; rfl))

/-- The second layer's weights as a vector. -/
theorem vector_apply (w : Weights2) (j : Fin 64) : shapeCast S64 w shapeCasts_S64x1_S64 (ix1 j) = w (ix2 j (0 : Fin 1)) :=
  shapeCast_apply _ _ _ _ (by
    rw [Shape.rowMajor_val_one, Shape.rowMajor_val_two]
    show j.val * 1 + 0 = j.val
    omega)

/-! ## The arrays the grid finds -/

/-- The temperatures: column 2. -/
theorem temp_array (c : Dev nD) (r : Fin 2048) (l : Fin 128) :
    V m c main_call0_v2 (ix2 r l) = m ((c : Thread nD τ).loc main_arg0) (ix2 (laneNo r l) (2 : Fin 4)) := by
  show StableHlo.after hostOps0 (fun b => m (c, b)) (Proc.devRef .tc main_call0_v2) (ix2 r l) = _
  after_results
  exact column_apply 2 2 rfl (m ((c : Thread nD τ).loc main_arg0)) slices_S262144x4_S262144x1_0_2 r l

/-- The fixed inputs: column 3. -/
theorem fixed_array (c : Dev nD) (r : Fin 2048) (l : Fin 128) :
    V m c main_call0_v5 (ix2 r l) = m ((c : Thread nD τ).loc main_arg0) (ix2 (laneNo r l) (3 : Fin 4)) := by
  show StableHlo.after hostOps0 (fun b => m (c, b)) (Proc.devRef .tc main_call0_v5) (ix2 r l) = _
  after_results
  exact column_apply 3 3 rfl (m ((c : Thread nD τ).loc main_arg0)) slices_S262144x4_S262144x1_0_3 r l

/-- The switches: column 1. -/
theorem switch_array (c : Dev nD) (r : Fin 2048) (l : Fin 128) :
    V m c main_call0_v8 (ix2 r l) = m ((c : Thread nD τ).loc main_arg0) (ix2 (laneNo r l) (1 : Fin 4)) := by
  show StableHlo.after hostOps0 (fun b => m (c, b)) (Proc.devRef .tc main_call0_v8) (ix2 r l) = _
  after_results
  exact column_apply 1 1 rfl (m ((c : Thread nD τ).loc main_arg0)) slices_S262144x4_S262144x1_0_1 r l

/-- The first layer's weights of the temperature: row 0. -/
theorem row0_array (c : Dev nD) (j : Fin 64) :
    V m c main_call0_v10 (ix1 j) = m ((c : Thread nD τ).loc main_arg1) (ix2 (0 : Fin 2) j) := by
  show StableHlo.after hostOps0 (fun b => m (c, b)) (Proc.devRef .tc main_call0_v10) (ix1 j) = _
  after_results
  exact row_apply 0 0 rfl (m ((c : Thread nD τ).loc main_arg1)) slices_S2x64_S1x64_0_0 j

/-- The first layer's weights of the fixed input: row 1. -/
theorem row1_array (c : Dev nD) (j : Fin 64) :
    V m c main_call0_v12 (ix1 j) = m ((c : Thread nD τ).loc main_arg1) (ix2 (1 : Fin 2) j) := by
  show StableHlo.after hostOps0 (fun b => m (c, b)) (Proc.devRef .tc main_call0_v12) (ix1 j) = _
  after_results
  exact row_apply 1 1 rfl (m ((c : Thread nD τ).loc main_arg1)) slices_S2x64_S1x64_1_0 j

/-- The second layer's weights, halved. -/
theorem half_weights (c : Dev nD) (j : Fin 64) :
    V m c main_call0_v15 (ix1 j) = @HMul.hMul EReal EReal EReal _ (m ((c : Thread nD τ).loc main_arg3) (ix2 j (0 : Fin 1))) Lane.half := by
  show StableHlo.after hostOps0 (fun b => m (c, b)) (Proc.devRef .tc main_call0_v15) (ix1 j) = _
  after_results
  exact congrArg (fun z : EReal => z * Lane.half) (vector_apply (m ((c : Thread nD τ).loc main_arg3)) j)

/-- The second layer's bias, halved. -/
theorem half_bias (c : Dev nD) :
    V m c main_call0_v17 (ix1 (0 : Fin 1)) = @HMul.hMul EReal EReal EReal _ (m ((c : Thread nD τ).loc main_arg4) (ix1 (0 : Fin 1))) Lane.half := by
  show StableHlo.after hostOps0 (fun b => m (c, b)) (Proc.devRef .tc main_call0_v17) (ix1 (0 : Fin 1)) = _
  after_results
  rfl

/-- The network the grid is handed is the arguments' network with the second layer halved. -/
theorem handed_eq (c : Dev nD) :
    handed m c = Lane.halved (netOf (m ((c : Thread nD τ).loc main_arg1)) (m ((c : Thread nD τ).loc main_arg2))
      (m ((c : Thread nD τ).loc main_arg3)) (m ((c : Thread nD τ).loc main_arg4))) := by
  unfold handed net Lane.halved netOf
  have e2 : (fun j : Fin 64 => V m c main_arg2 (ix1 j)) = fun j => m ((c : Thread nD τ).loc main_arg2) (ix1 j) := by
    rw [V_main_arg2]
  simp only [Lane.Net.mk.injEq]
  exact ⟨funext (row0_array m c), funext (row1_array m c), e2, funext (half_weights m c), half_bias m c⟩

/-- A lane's temperature in terms of the arguments. -/
theorem laneTemp_eq (c : Dev nD) (n : ℕ) (r : Fin 2048) (l : Fin 128) :
    laneTemp m c n r l = (laneAfter (m ((c : Thread nD τ).loc main_arg0)) (m ((c : Thread nD τ).loc main_arg1))
      (m ((c : Thread nD τ).loc main_arg2)) (m ((c : Thread nD τ).loc main_arg3)) (m ((c : Thread nD τ).loc main_arg4))
      (laneNo r l) (n + 1)).1 := by
  unfold laneTemp laneAfter
  rw [handed_eq, temp_array, fixed_array, switch_array]
  congr 2
  exact funext fun s => Lane.kernelStep_eq _ _ s

/-! ## The result array -/

/-- A stack of 2048 × 128 planes reshaped to a row per plane. -/
theorem planes_apply (x : S40x2048x128.Idx → EReal) (i : S40x262144.Idx) :
    shapeCast S40x262144 x shapeCasts_S40x2048x128_S40x262144 i
      = x (ix3 (i 0 : Fin 40) (⟨(i 1).val / 128, by have : (i 1).val < 262144 := (i 1).isLt; omega⟩ : Fin 2048)
          (⟨(i 1).val % 128, Nat.mod_lt _ (by decide)⟩ : Fin 128)) :=
  shapeCast_apply _ _ _ _ (by
    rw [Shape.rowMajor_val_three, Shape.rowMajor_val_two]
    show ((i 0).val * 2048 + (i 1).val / 128) * 128 + (i 1).val % 128 = (i 0).val * 262144 + (i 1).val
    omega)

/-- The result array after the last reshape is `answer` of the arguments. -/
theorem result_array (c : Dev nD) :
    Pipeline.afterTail₀ cfgs (dats m) 0 (V0 m) [hostOps1] c main_v0
      = answer (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v0) = _
  after_results
  have e : Pipeline.withArrays spec0 c (V0 m c) (fun w => (dats m 0 c).arrAt w cfg0.N) (Proc.devRef .tc main_call0_v18)
      = outArray m c :=
    (Pipeline.withArrays_arr spec0 (by decide) c (V0 m c) (fun w => (dats m 0 c).arrAt w cfg0.N) 8).trans (final_out m c)
  funext i
  refine (congrArg (fun x => shapeCast S40x262144 x shapeCasts_S40x2048x128_S40x262144 i) e).trans ?_
  rw [planes_apply]
  refine (laneTemp_eq m c _ _ _).trans ?_
  unfold answer
  have el : laneNo (⟨(i 1).val / 128, by have : (i 1).val < 262144 := (i 1).isLt; omega⟩ : Fin 2048)
      (⟨(i 1).val % 128, Nat.mod_lt _ (by decide)⟩ : Fin 128) = (i 1 : Fin 262144) :=
    Fin.ext (show (i 1).val / 128 * 128 + (i 1).val % 128 = (i 1).val by omega)
  exact congrArg (fun B => (laneAfter _ _ _ _ _ B ((i 0).val + 1)).1) el

variable (ρ : Dev nD → PrngReg)

/-- The kernel runs to its end with `answer` of the arguments in its result and the arguments as they were. -/
theorem run_value : θ_run defs (onTc (τ := τ) (main (F := Ideal))) ⟨m, fun _ => 0, ρ⟩ (fun r => ∀ c : Dev nD,
      r.2.mem ((c.tc : Thread nD τ).loc main_v0)
        = answer (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    have rest (b : Ref sig .tc) (h1 h2) := (h c).2 b (Pipeline.mem_restRefs_of b h1 h2)
    ⟨(rest main_v0 (by decide) (by decide)).trans (result_array m c),
      (rest main_arg0 (by decide) (by decide)).trans (W_main_arg0 m (dats m) c),
      (rest main_arg1 (by decide) (by decide)).trans (W_main_arg1 m (dats m) c),
      ((h c).1 2).trans (((dats m 0 c).arrAt_in 2 rfl _).trans ((A_eq m c 2).trans (V_main_arg2 m c))),
      (rest main_arg3 (by decide) (by decide)).trans (W_main_arg3 m (dats m) c),
      (rest main_arg4 (by decide) (by decide)).trans (W_main_arg4 m (dats m) c)⟩) (run_main m ρ)

end Cert.KernelIdeal.Gen
-- ==== Proof.RefTrip.lean ====
module

public import proofs.«01_k».proof.Proof.Gen.ReferenceIdeal.Run
public import proofs.«01_k».proof.Proof.Answer
public import Idealize.ShloMosaic.Lib.Pipeline.Value
public import Idealize.ShloMosaic.Lib.ValueLayout
public import Idealize.ShloMosaic.Lib.StackMember
public import Idealize.ShloMosaic.Lib.WordCmp

/-!
# One trip of the reference's loop

The reference carries an array of 262144 rows of four numbers (step count, switch, temperature, fixed input) and the
array of temperatures recorded so far. This module states what one trip leaves in both, lane by lane.
-/

@[expose] public section
set_option maxRecDepth 16384
noncomputable section
namespace Cert.ReferenceIdeal.Value

open Cert.ReferenceIdeal.Gen
open Idealize.ShloMosaic Idealize.ShloMosaic.TcCoe
open Idealize.ShloMosaic.ValueIdx
open Cert.Proof

/-- The contents of every array, at the ideal values. -/
abbrev Contents := Valuation τ sig (Elt Ideal)

variable (W : Contents)

/-- The carried states. -/
def rows : Rows := W (Proc.devRef .tc main_v1_5)
/-- The network, from the four parameter arrays the loop carries. -/
def net : Lane.Net := netOf (W (Proc.devRef .tc main_v1_0)) (W (Proc.devRef .tc main_v1_1)) (W (Proc.devRef .tc main_v1_2))
  (W (Proc.devRef .tc main_v1_3))
/-- Lane `B`'s step count. -/
def count (B : Fin 262144) : EReal := rows W (ix2 B (0 : Fin 4))
/-- Lane `B`'s temperature and switch. -/
def lane (B : Fin 262144) : EReal × EReal := (rows W (ix2 B (2 : Fin 4)), rows W (ix2 B (1 : Fin 4)))
/-- Lane `B`'s fixed input. -/
def fixed (B : Fin 262144) : EReal := rows W (ix2 B (3 : Fin 4))

/-! The arrays one trip works with, each at its shape. -/

abbrev weights1 : FVec Ideal S2x64 .f32 := W (Proc.devRef .tc main_v1_0)
abbrev bias1 : FVec Ideal S64 .f32 := W (Proc.devRef .tc main_v1_1)
abbrev weights2 : FVec Ideal S64x1 .f32 := W (Proc.devRef .tc main_v1_2)
abbrev bias2 : FVec Ideal S1 .f32 := W (Proc.devRef .tc main_v1_3)
abbrev countCol : FVec Ideal S262144 .f32 := res_main_while0b_v3 W
abbrev switchCol : FVec Ideal S262144 .f32 := res_main_while0b_v5 W
abbrev tempCol : FVec Ideal S262144 .f32 := res_main_while0b_v7 W
abbrev fixedCol : FVec Ideal S262144 .f32 := res_main_while0b_v9 W
abbrev activeCol : IVec S262144 1 := res_main_while0b_v11 W
abbrev driftCol : FVec Ideal S262144 .f32 := res_main_while0b_v36 W
abbrev warmCol : FVec Ideal S262144 .f32 := res_main_while0b_v43 W
abbrev recordCol : FVec Ideal S262144 .f32 := res_main_while0b_v51 W

/-! ## The layout operations at an index -/

/-- A column vector read as a vector. -/
theorem flat_apply {α : Type} (x : S262144x1.Idx → α) (B : Fin 262144) :
    shapeCast S262144 x shapeCasts_S262144x1_S262144 (ix1 B) = x (ix2 B (0 : Fin 1)) :=
  shapeCast_apply _ _ _ _ (by
    rw [Shape.rowMajor_val_one, Shape.rowMajor_val_two]
    show B.val * 1 + 0 = B.val
    omega)

/-- A vector read as a column vector. -/
theorem upright_apply {α : Type} (x : S262144.Idx → α) (B : Fin 262144) (u : Fin 1) :
    broadcastInDim S262144x1 ![0] bcast_S262144_S262144x1_0 x (ix2 B u) = x (ix1 B) :=
  broadcastInDim_apply _ _ _ _ _ fun a => by
    match a with
    | ⟨0, _⟩ => exact (if_neg (show ¬ (262144 : ℕ) = 1 by decide)).symm

/-- Column `o` of the states as a vector. -/
theorem column_apply (o : Nat) (k : Fin 4) (hk : k.val = o) (x : Rows) (h : S262144x4.Slices ![0, o] S262144x1) (B : Fin 262144) :
    shapeCast S262144 (extractStridedSlice S262144x1 ![0, o] x h) shapeCasts_S262144x1_S262144 (ix1 B) = x (ix2 B k) :=
  (flat_apply _ B).trans (slice2_axis1_apply o x h _ _ k (by rw [hk]; rfl))

theorem count_col (B : Fin 262144) : countCol W (ix1 B) = count W B :=
  column_apply 0 0 rfl (rows W) slices_S262144x4_S262144x1_0_0 B
theorem switch_col (B : Fin 262144) : switchCol W (ix1 B) = (lane W B).2 :=
  column_apply 1 1 rfl (rows W) slices_S262144x4_S262144x1_0_1 B
theorem temp_col (B : Fin 262144) : tempCol W (ix1 B) = (lane W B).1 :=
  column_apply 2 2 rfl (rows W) slices_S262144x4_S262144x1_0_2 B
theorem fixed_col (B : Fin 262144) : fixedCol W (ix1 B) = fixed W B :=
  column_apply 3 3 rfl (rows W) slices_S262144x4_S262144x1_0_3 B

/-! ## The network -/

/-- The network's input: two columns, the temperature and the fixed input. -/
def pairs : FVec Ideal S262144x2 .f32 :=
  concatenate S262144x2 1 [⟨S262144x1, broadcastInDim S262144x1 ![0] bcast_S262144_S262144x1_0 (tempCol W)⟩,
    ⟨S262144x1, broadcastInDim S262144x1 ![0] bcast_S262144_S262144x1_0 (fixedCol W)⟩]
    concatenates_S262144x1_S262144x1_S262144x2_d1

theorem pairs_zero (B : Fin 262144) : pairs W (ix2 B (0 : Fin 2)) = (lane W B).1 := by
  refine (concatenate_pair_apply_left (t := S262144x2) 1 _ _ concatenates_S262144x1_S262144x1_S262144x2_d1 (ix2 B (0 : Fin 2)) rfl (ix2 B (0 : Fin 1)) fun b => ?_).trans ((upright_apply _ B 0).trans (temp_col W B))
  match b with
  | ⟨0, _⟩ => rfl
  | ⟨1, _⟩ => rfl

theorem pairs_one (B : Fin 262144) : pairs W (ix2 B (1 : Fin 2)) = fixed W B := by
  refine (concatenate_pair_apply_right (t := S262144x2) 1 _ _ concatenates_S262144x1_S262144x1_S262144x2_d1 (ix2 B (1 : Fin 2)) rfl rfl (ix2 B (0 : Fin 1)) (fun b hb => ?_) rfl).trans
    ((upright_apply _ B 0).trans (fixed_col W B))
  match b with
  | ⟨0, _⟩ => rfl
  | ⟨1, _⟩ => exact absurd rfl hb

/-- The hidden layer. -/
def hiddens : FVec Ideal S262144x64 .f32 :=
  maximumf (addf (Host.dotGeneral dot_S262144x2_S2x64_S262144x64_1_0_0_1_n_n none (pairs W) (weights1 W))
    (broadcastInDim S262144x64 ![0, 1] bcast_S1x64_S262144x64_0_1 (broadcastInDim S1x64 ![1] bcast_S64_S1x64_1 (bias1 W))))
    (broadcastInDim S262144x64 ![] bcast_S_S262144x64 (constant S_ .f32 0x00000000#32))

/-- A bias vector added to every row. -/
theorem bias1_apply (b : Bias1) (B : Fin 262144) (j : Fin 64) :
    broadcastInDim S262144x64 ![0, 1] bcast_S1x64_S262144x64_0_1 (broadcastInDim S1x64 ![1] bcast_S64_S1x64_1 b) (ix2 B j) = b (ix1 j) :=
  (broadcastInDim_apply _ _ _ _ (ix2 (0 : Fin 1) j) fun a => by
    match a with
    | ⟨0, _⟩ => rfl
    | ⟨1, _⟩ => exact (if_neg (show ¬ (64 : ℕ) = 1 by decide)).symm).trans
  (broadcastInDim_apply _ _ _ _ _ fun a => by
    match a with
    | ⟨0, _⟩ => exact (if_neg (show ¬ (64 : ℕ) = 1 by decide)).symm)

/-- The one-entry bias added to every row. -/
theorem bias2_apply (b : Bias2) (B : Fin 262144) :
    broadcastInDim S262144x1 ![0, 1] bcast_S1x1_S262144x1_0_1 (broadcastInDim S1x1 ![1] bcast_S1_S1x1_1 b) (ix2 B (0 : Fin 1))
      = b (ix1 (0 : Fin 1)) :=
  (broadcastInDim_apply _ _ _ _ (ix2 (0 : Fin 1) (0 : Fin 1)) fun a => by
    match a with
    | ⟨0, _⟩ => rfl
    | ⟨1, _⟩ => rfl).trans
  (broadcastInDim_apply _ _ _ _ _ fun a => by
    match a with
    | ⟨0, _⟩ => rfl)

/-- Hidden unit `j` of lane `B`. -/
theorem hiddens_apply (B : Fin 262144) (j : Fin 64) :
    hiddens W (ix2 B j) = Lane.hidden (net W) (lane W B).1 (fixed W B) j := by
  have hdot : Host.dotGeneral dot_S262144x2_S2x64_S262144x64_1_0_0_1_n_n none (pairs W) (weights1 W) (ix2 B j)
      = (lane W B).1 * (net W).a j + fixed W B * (net W).c j := by
    refine (StackMember.dotGeneral_plain_apply none (pairs W) (weights1 W) B j).trans ?_
    rw [Fin.sum_univ_two, pairs_zero, pairs_one]
    rfl
  show max ((_ : EReal) + (_ : EReal)) (_ : EReal) = _
  rw [hdot, bias1_apply]
  rfl

/-- The second layer's output, as a column vector. -/
def scores : FVec Ideal S262144x1 .f32 :=
  addf (Host.dotGeneral dot_S262144x64_S64x1_S262144x1_1_0_0_1_n_n none (hiddens W) (weights2 W))
    (broadcastInDim S262144x1 ![0, 1] bcast_S1x1_S262144x1_0_1 (broadcastInDim S1x1 ![1] bcast_S1_S1x1_1 (bias2 W)))

theorem scores_apply (B : Fin 262144) : scores W (ix2 B (0 : Fin 1)) = Lane.score (net W) (lane W B).1 (fixed W B) := by
  have hdot : Host.dotGeneral dot_S262144x64_S64x1_S262144x1_1_0_0_1_n_n none (hiddens W) (weights2 W) (ix2 B (0 : Fin 1))
      = ∑ j, Lane.hidden (net W) (lane W B).1 (fixed W B) j * (net W).v j :=
    (StackMember.dotGeneral_plain_apply none (hiddens W) (weights2 W) B (0 : Fin 1)).trans
      (Finset.sum_congr rfl fun j _ => by rw [hiddens_apply]; rfl)
  show (_ : EReal) + (_ : EReal) = _
  rw [hdot, bias2_apply]
  rfl

/-- The drift of lane `B`. -/
theorem drift_col (B : Fin 262144) :
    driftCol W (ix1 B) = Lane.drift (Lane.score (net W) (lane W B).1 (fixed W B)) := by
  have h := scores_apply W B
  unfold Lane.drift
  refine congrArg (fun z : EReal => (z * Lane.ten - Lane.five) * Lane.ten) ((flat_apply _ B).trans ?_)
  exact congrArg (fun z : EReal => Ideal.div Lane.one (Lane.one + Ideal.exp (-z))) h

/-! ## The switch and the new states -/

/-- The next state of lane `B`, were it active. -/
def next (B : Fin 262144) : EReal × EReal := Lane.refStep (net W) (fixed W B) (lane W B)

theorem warm_col (B : Fin 262144) : warmCol W (ix1 B) = (next W B).1 := by
  show Scalar.select (Ideal.cmp .ole (switchCol W (ix1 B)) Lane.half)
      (tempCol W (ix1 B) + driftCol W (ix1 B) : EReal)
      ((tempCol W (ix1 B) + driftCol W (ix1 B) : EReal) + Lane.five) = _
  rw [switch_col, temp_col, drift_col]
  rfl

variable {W} {B : Fin 262144}

/-- A lane whose count is below forty is active. -/
theorem active (h : count W B < Lane.forty) : activeCol W (ix1 B) = 1#1 := by
  show Ideal.cmp .olt (countCol W (ix1 B)) Lane.forty = 1#1
  rw [count_col]
  show BitVec.ofBool (decide (count W B < Lane.forty)) = 1#1
  rw [decide_eq_true h]
  rfl

/-- The recorded temperature of an active lane. -/
theorem recorded (h : count W B < Lane.forty) : recordCol W (ix1 B) = (next W B).1 := by
  show Scalar.select (activeCol W (ix1 B)) (warmCol W (ix1 B)) (tempCol W (ix1 B)) = _
  rw [active h, warm_col]
  rfl

/-- Column `k` of four stacked columns. -/
theorem stacked_apply (x0 x1 x2 x3 : FVec Ideal S262144 .f32) (B : Fin 262144) (k : Fin 4) :
    concatenate S262144x4 1
      [⟨S262144x1, (broadcastInDim S262144x1 ![0] bcast_S262144_S262144x1_0 x0 : S262144x1.Idx → EReal)⟩,
       ⟨S262144x1, (broadcastInDim S262144x1 ![0] bcast_S262144_S262144x1_0 x1 : S262144x1.Idx → EReal)⟩,
       ⟨S262144x1, (broadcastInDim S262144x1 ![0] bcast_S262144_S262144x1_0 x2 : S262144x1.Idx → EReal)⟩,
       ⟨S262144x1, (broadcastInDim S262144x1 ![0] bcast_S262144_S262144x1_0 x3 : S262144x1.Idx → EReal)⟩]
      concatenates_S262144x1_S262144x1_S262144x1_S262144x1_S262144x4_d1 (ix2 B k)
      = (![x0, x1, x2, x3] : Fin 4 → FVec Ideal S262144 .f32) k (ix1 B) := by
  have piece := concatenate_ofFn_unit_apply (t := S262144x4) (s₁ := S262144x1) 1
    (fun n : Fin 4 => broadcastInDim S262144x1 ![0] bcast_S262144_S262144x1_0 ((![x0, x1, x2, x3] : Fin 4 → FVec Ideal S262144 .f32) n))
    concatenates_S262144x1_S262144x1_S262144x1_S262144x1_S262144x4_d1 rfl rfl (ix2 B k) k rfl (ix2 B (0 : Fin 1))
    (fun b hb => by
      match b with
      | ⟨0, _⟩ => rfl
      | ⟨1, _⟩ => exact absurd rfl hb)
  exact piece.trans (upright_apply _ B 0)

/-- A trip's new states, of an active lane: the count one more, the lane a step on, the fixed input as it was. -/
theorem trip_rows (h : count W B < Lane.forty) :
    count (STEP W) B = count W B + Lane.one ∧ lane (STEP W) B = next W B ∧ fixed (STEP W) B = fixed W B := by
  have at_ (k : Fin 4) : rows (STEP W) (ix2 B k) = _ := (congrFun (STEP_main_v1_5 W) (ix2 B k)).trans (stacked_apply _ _ _ _ B k)
  refine ⟨(at_ 0).trans ?_, Prod.ext ((at_ 2).trans (recorded h)) ((at_ 1).trans ?_), (at_ 3).trans (fixed_col W B)⟩
  · show Scalar.select (activeCol W (ix1 B)) (countCol W (ix1 B) + Lane.one : EReal) (countCol W (ix1 B)) = _
    rw [active h, count_col]
    rfl
  · show Scalar.select (activeCol W (ix1 B))
        (Scalar.select (Ideal.cmp .ole (switchCol W (ix1 B)) Lane.half)
          (Scalar.select (Ideal.cmp .ole (warmCol W (ix1 B)) Lane.tOn) Lane.one (switchCol W (ix1 B)))
          (Scalar.select (Ideal.cmp .ole (warmCol W (ix1 B)) Lane.tOff) (switchCol W (ix1 B)) Lane.zero))
        (switchCol W (ix1 B)) = _
    rw [active h, switch_col, warm_col]
    rfl

/-- A trip keeps the network. -/
theorem trip_net : net (STEP W) = net W := by
  unfold net
  rw [STEP_main_v1_0, STEP_main_v1_1, STEP_main_v1_2, STEP_main_v1_3]

/-! ## The record -/

/-- The temperatures recorded so far. -/
def record (W : Contents) : (⟨2, ![40, 262144]⟩ : Shape).Idx → EReal := W (Proc.devRef .tc main_v1_6)

/-- Trip `k` records the temperatures in row `k` and leaves the other rows. -/
theorem trip_record (k : ℕ) (hk : k < 40) (hc : W (Proc.devRef .tc main_v1_4) = fun _ => BitVec.ofNat 32 k) (r : Fin 40) (B : Fin 262144) :
    record (STEP W) (ix2 r B) = if r.val = k then recordCol W (ix1 B) else record W (ix2 r B) := by
  unfold record
  rw [STEP_main_v1_6]
  have hs : S40x262144.Slices ![k, 0] S1x262144 := ⟨rfl, fun a => by
    match a with
    | ⟨0, _⟩ => show k + 1 ≤ 40; omega
    | ⟨1, _⟩ => show 0 + 262144 ≤ 262144; omega⟩
  have e := WordCmp.dynamicUpdateSlice_eq_update (W (Proc.devRef .tc main_v1_6) : S40x262144.Idx → EReal)
    (broadcastInDim S1x262144 ![1] bcast_S262144_S1x262144_1 (recordCol W))
    (fun k => (((![W (Proc.devRef .tc main_v1_4), constantI S_ 32 0#32] : Fin 2 → (⟨S_, .i32⟩ : BufTy).Contents (Elt Ideal))) k (Shape.Idx.first h_S_)).toInt)
    updateFits_S40x262144_S1x262144 ![k, 0] hs (fun a => by
      match a with
      | ⟨0, _⟩ =>
        show (W (Proc.devRef .tc main_v1_4) _ : BitVec 32).toInt = (k : Int)
        rw [hc]
        exact WordCmp.toInt_ofNat_of_lt (by omega)
      | ⟨1, _⟩ => rfl)
  refine (congrFun e (ix2 r B)).trans ?_
  unfold updateSlice
  by_cases hr : r.val = k
  · rw [if_pos hr, dif_pos fun a => by
      match a with
      | ⟨0, _⟩ => show k ≤ r.val ∧ r.val < k + 1; omega
      | ⟨1, _⟩ => show 0 ≤ B.val ∧ B.val < 0 + 262144; omega]
    exact broadcastInDim_apply _ _ _ _ _ fun a => by
      match a with
      | ⟨0, _⟩ => exact (if_neg (show ¬ (262144 : ℕ) = 1 by decide)).symm
  · rw [if_neg hr, dif_neg fun hin => by
      have h0 : k ≤ r.val ∧ r.val < k + 1 := hin 0
      omega]

end Cert.ReferenceIdeal.Value
-- ==== Proof.RefRun.lean ====
module

public import proofs.«01_k».proof.Proof.RefTrip

/-!
# The reference's forty trips

By induction on the trips, what the reference's loop holds after `k` of them; from it, that the reference's result is
`answer` of the arguments when every step count starts below one.
-/

@[expose] public section
set_option maxRecDepth 16384
noncomputable section
namespace Cert.ReferenceIdeal.Value

open Cert.ReferenceIdeal.Gen
open Idealize.ShloMosaic Idealize.ShloMosaic.TcCoe Idealize.ShloMosaic.StableHlo
open Idealize.ShloMosaic.ValueIdx
open Cert.Proof

/-! ## The step count -/

/-- A count that started below one is still below forty after fewer than forty steps. -/
theorem below_forty (s : EReal) (hs : s < 1) (k : ℕ) (hk : k < 40) : s + (k : ℝ) < Lane.forty := by
  have hk' : (k : ℝ) ≤ 39 := by exact_mod_cast (by omega : k ≤ 39)
  rw [Lane.forty_eq]
  induction s using EReal.rec with
  | bot => rw [EReal.bot_add]; exact EReal.bot_lt_coe _
  | coe s =>
    have hs' : s < 1 := by exact_mod_cast hs
    have h : s + (k : ℝ) < 40 := by linarith
    exact_mod_cast h
  | top => exact absurd hs (not_lt.2 le_top)

/-- Counting one more step. -/
theorem count_succ (s : EReal) (k : ℕ) : s + (k : ℝ) + Lane.one = s + ((k + 1 : ℕ) : ℝ) := by
  rw [Lane.one_eq, add_assoc]
  push_cast
  rfl

/-! ## The invariant -/

variable (x : Rows) (W1 : Weights1) (b1 : Bias1) (W2 : Weights2) (b2 : Bias2)

/-- What the loop holds after `k` trips: the parameters, the trip count, every lane `k` steps on, and in the first `k`
    rows of the record the temperatures after each step. -/
structure After (k : ℕ) (W : Contents) : Prop where
  net_eq : net W = netOf W1 b1 W2 b2
  trip_eq : W (Proc.devRef .tc main_v1_4) = fun _ => BitVec.ofNat 32 k
  count_eq : ∀ B, count W B = x (ix2 B (0 : Fin 4)) + (k : ℝ)
  lane_eq : ∀ B, lane W B = laneAfter x W1 b1 W2 b2 B k
  fixed_eq : ∀ B, fixed W B = x (ix2 B (3 : Fin 4))
  record_eq : ∀ (r : Fin 40) B, r.val < k → record W (ix2 r B) = (laneAfter x W1 b1 W2 b2 B (r.val + 1)).1

variable {x W1 b1 W2 b2}

/-- A trip takes the invariant one trip on. -/
theorem After.succ (hx : ∀ B, x (ix2 B (0 : Fin 4)) < 1) {k : ℕ} (hk : k < 40) {W : Contents} (h : After x W1 b1 W2 b2 k W) :
    After x W1 b1 W2 b2 (k + 1) (STEP W) := by
  have act : ∀ B, count W B < Lane.forty := fun B => by rw [h.count_eq]; exact below_forty _ (hx B) k hk
  have hnext : ∀ B, next W B = laneAfter x W1 b1 W2 b2 B (k + 1) := fun B => by
    unfold next
    rw [h.net_eq, h.fixed_eq, h.lane_eq, laneAfter_succ]
  refine ⟨trip_net.trans h.net_eq, ?_, fun B => ?_, fun B => ?_, fun B => ?_, fun r B hr => ?_⟩
  · rw [STEP_main_v1_4]
    unfold step_main_v1_4
    rw [h.trip_eq]
    funext _
    show BitVec.ofNat 32 k + 1#32 = BitVec.ofNat 32 (k + 1)
    exact (BitVec.ofNat_add k 1).symm
  · rw [(trip_rows (act B)).1, h.count_eq, count_succ]
  · rw [(trip_rows (act B)).2.1, hnext]
  · rw [(trip_rows (act B)).2.2, h.fixed_eq]
  · rw [trip_record k hk h.trip_eq]
    by_cases e : r.val = k
    · rw [if_pos e, e]; exact (recorded (act B)).trans (congrArg Prod.fst (hnext B))
    · rw [if_neg e]; exact h.record_eq r B (by omega)

/-- The invariant after any number of trips up to forty. -/
theorem After.iterate (hx : ∀ B, x (ix2 B (0 : Fin 4)) < 1) {W : Contents} (h : After x W1 b1 W2 b2 0 W) :
    ∀ k ≤ 40, After x W1 b1 W2 b2 k (STEP^[k] W)
  | 0, _ => h
  | k + 1, hk => by
    rw [Function.iterate_succ_apply']
    exact (After.iterate hx h k (by omega)).succ hx (by omega)

/-! ## The run -/

variable (m : (ℓ : Loc nD τ sig) → Buf (Elt Ideal) ℓ) (ρ : Dev nD → PrngReg)

/-- The loop starts from the arguments. -/
theorem entry (c : Dev nD) :
    After (m ((c : Thread nD τ).loc main_arg0)) (m ((c : Thread nD τ).loc main_arg1)) (m ((c : Thread nD τ).loc main_arg2))
      (m ((c : Thread nD τ).loc main_arg3)) (m ((c : Thread nD τ).loc main_arg4)) 0 (entryContents preI m c) := by
  have e0 : entryContents preI m c (Proc.devRef .tc main_v1_0) = m ((c : Thread nD τ).loc main_arg1) := by
    simp only [entryContents, afterL_cons, afterL_nil]; after_results; rfl
  have e1 : entryContents preI m c (Proc.devRef .tc main_v1_1) = m ((c : Thread nD τ).loc main_arg2) := by
    simp only [entryContents, afterL_cons, afterL_nil]; after_results; rfl
  have e2 : entryContents preI m c (Proc.devRef .tc main_v1_2) = m ((c : Thread nD τ).loc main_arg3) := by
    simp only [entryContents, afterL_cons, afterL_nil]; after_results; rfl
  have e3 : entryContents preI m c (Proc.devRef .tc main_v1_3) = m ((c : Thread nD τ).loc main_arg4) := by
    simp only [entryContents, afterL_cons, afterL_nil]; after_results; rfl
  have e5 : entryContents preI m c (Proc.devRef .tc main_v1_5) = m ((c : Thread nD τ).loc main_arg0) := by
    simp only [entryContents, afterL_cons, afterL_nil]; after_results; rfl
  have er : rows (entryContents preI m c) = m ((c : Thread nD τ).loc main_arg0) := e5
  refine ⟨?_, ctr_entry m c, fun B => ?_, fun B => ?_, fun B => ?_, fun r B hr => absurd hr (Nat.not_lt_zero _)⟩
  · unfold net; rw [e0, e1, e2, e3]
  · unfold count; rw [er, Nat.cast_zero, EReal.coe_zero, add_zero]
  · unfold lane laneAfter; rw [er]; rfl
  · unfold fixed; rw [er]

/-- The record after forty trips is `answer` of the arguments. -/
theorem record_full {c : Dev nD} (hx : ∀ B : Fin 262144, @LT.lt EReal _ (m ((c : Thread nD τ).loc main_arg0) (ix2 B (0 : Fin 4))) 1) :
    (STEP^[40] (entryContents preI m c)) (Proc.devRef .tc main_v1_6)
      = answer (m ((c : Thread nD τ).loc main_arg0)) (m ((c : Thread nD τ).loc main_arg1))
          (m ((c : Thread nD τ).loc main_arg2)) (m ((c : Thread nD τ).loc main_arg3)) (m ((c : Thread nD τ).loc main_arg4)) := by
  have a := (entry m c).iterate hx 40 le_rfl
  generalize STEP^[40] (entryContents preI m c) = W at a ⊢
  funext i
  obtain ⟨r, B, rfl⟩ : ∃ (r : Fin 40) (B : Fin 262144), i = ix2 r B := ⟨i 0, i 1, eq_ix2 i⟩
  exact a.record_eq r B r.isLt

/-- When every step count starts below one, the reference runs to its end with `answer` of the arguments in its result
    and the arguments as they were. -/
theorem run_value (hx : ∀ (c : Dev nD) (B : Fin 262144), @LT.lt EReal _ (m ((c : Thread nD τ).loc main_arg0) (ix2 B (0 : Fin 4))) 1) :
    θ_run (defs (F := Ideal)) (onTc (τ := τ) (main (F := Ideal))) ⟨m, fun _ => 0, ρ⟩ (fun r => ∀ c : Dev nD,
      r.2.mem ((c.tc : Thread nD τ).loc main_v1_6)
        = answer (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (record_full m (hx c)), (h c).2⟩) (run m ρ)

end Cert.ReferenceIdeal.Value
-- ==== Proof.Equation.lean ====
module

public import proofs.«01_k».proof.Defs
public import proofs.«01_k».proof.Proof.HostSide
public import proofs.«01_k».proof.Proof.RefRun
public import proofs.«01_k».proof.Proof.Gen.Pre_never_stopped
public import Idealize.ShloMosaic.Lib.ReduceAll

/-!
# The equation

The precondition says that every lane's step count starts below one; then the kernel's result and the reference's are
both `answer` of the arguments.
-/

@[expose] public section
set_option maxRecDepth 16384
noncomputable section
namespace Cert.Proof

open Idealize.ShloMosaic Idealize.ShloMosaic.TcCoe Idealize.SL.Sem
open Idealize.ShloMosaic.ValueIdx

/-- The precondition at a lane: its step count starts below one. -/
theorem starts_below_one (x : Rows) (W1 : Weights1) (b1 : Bias1) (W2 : Weights2) (b2 : Bias2)
    (h : Cert.Pre_never_stopped.fn (F := Ideal) x W1 b1 W2 b2 = fun _ => 1#1) (B : Fin 262144) : x (ix2 B (0 : Fin 4)) < 1 := by
  unfold Cert.Pre_never_stopped.fn at h
  haveI : Subsingleton Cert.Pre_never_stopped.S_.Idx := ⟨fun i j => funext fun a => a.elim0⟩
  have hB := Host.reduce_andi_all _ _ Cert.Pre_never_stopped.Facts.reducesTo_S262144_S_d0 Cert.Pre_never_stopped.Facts.h_S_
    ix0 (congrFun h ix0) (ix1 B)
  have hcol : shapeCast Cert.Pre_never_stopped.S262144
      (extractStridedSlice Cert.Pre_never_stopped.S262144x1 ![0, 0] x Cert.Pre_never_stopped.Facts.slices_S262144x4_S262144x1_0_0)
      Cert.Pre_never_stopped.Facts.shapeCasts_S262144x1_S262144 (ix1 B) = x (ix2 B (0 : Fin 4)) :=
    Cert.ReferenceIdeal.Value.column_apply 0 0 rfl x Cert.Pre_never_stopped.Facts.slices_S262144x4_S262144x1_0_0 B
  have hlt : BitVec.ofBool (decide (x (ix2 B (0 : Fin 4)) < Lane.one)) = 1#1 := by rw [← hcol]; exact hB
  rw [Lane.one_eq] at hlt
  by_contra hn
  rw [decide_eq_false hn] at hlt
  exact absurd hlt (by decide)

/-- The value claim: from arguments that agree and every count starting below one, both programs end with `answer` of
    the arguments, which they leave unchanged. -/
theorem same_answer : Cert.algebraic_KernelIdeal_ReferenceIdeal_pre_never_stopped := by
  intro m g m' g' hpre hargs
  refine ⟨fun c => answer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Gen.run_value m g, ?_⟩
  refine (θ_run Cert.ReferenceIdeal.defs _ _).mono (fun r h c => ?_)
    (Cert.ReferenceIdeal.Value.run_value m' g' fun c B => ?_)
  · obtain ⟨e0, e1, e2, e3, e4⟩ := hargs c
    refine ⟨(h c).1.trans ?_, (h c).2⟩
    rw [e0, e1, e2, e3, e4]
  · rw [(hargs c).1]
    exact starts_below_one _ _ _ _ _ (hpre c) B

end Cert.Proof
-- ==== Proof.lean ====
/-
  The certificate's claim: the kernel, its reading over the extended reals and the reference run to their ends and leave
  their arguments unchanged; and over the extended reals the kernel and the reference have equal results. The frames of
  the kernel are the generated ones; the reference's is read off its generated run; the equality is `same_answer`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_never_stopped
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to its end, leaves its arguments unchanged, and ends with every counter at zero: it has none. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Everything the certificate claims. -/
theorem claim : Cert.Claim := ⟨Cert.Kernel.Gen.facts, Cert.KernelIdeal.Gen.facts, Cert.ReferenceIdeal.Gen.facts, Cert.Pre_never_stopped.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  same_answer⟩

end Cert.Proof

end
